-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![2, 4096, 768]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 512, 768]⟩ ⟨3, ![2, 4096, 768]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn_part1 {F : FTy → Type} [FloatOps F] (main_arg2 : FVec F S2x512x8x64 .f32) (main_v12 : IVec S_ 1) (main_v14 : IVec S2x512x8x64 1) (main_v15 : FVec F S2x512x8x64 .f32) : IVec S_ 1 :=
  let main_v16 : IVec S2x512x8x64 1 := cmpf .olt main_arg2 main_v15
  let main_v17 : IVec S2x512x8x64 1 := andi main_v14 main_v16
  let main_c_6 : IVec S_ 1 := constantI S_ 1 1#1
  let main_v18 : IVec S_ 1 := (fun x v => Host.reduce IntOp.andi x v reducesTo_S2x512x8x64_S_d0_1_2_3 h_S_) main_v17 main_c_6
  let main_v19 : IVec S_ 1 := andi main_v12 main_v18
  main_v19

def fn {F : FTy → Type} [FloatOps F] (main_arg0 : FVec F S2x512x768 .f32) (main_arg1 : FVec F S768x512 .f32) (main_arg2 : FVec F S2x512x8x64 .f32) (main_arg3 : FVec F S2x512x8x64 .f32) (main_arg4 : FVec F S512x768 .f32) : IVec S_ 1 :=
  let main_cst : FVec F S_ .f32 := constant S_ .f32 0xFF800000#32
  let main_v0 : FVec F S2x512x768 .f32 := broadcastInDim S2x512x768 ![] bcast_S_S2x512x768 main_cst
  let main_v1 : IVec S2x512x768 1 := cmpf .ogt main_arg0 main_v0
  let main_cst_0 : FVec F S_ .f32 := constant S_ .f32 0x7F800000#32
  let main_v2 : FVec F S2x512x768 .f32 := broadcastInDim S2x512x768 ![] bcast_S_S2x512x768 main_cst_0
  let main_v3 : IVec S2x512x768 1 := cmpf .olt main_arg0 main_v2
  let main_v4 : IVec S2x512x768 1 := andi main_v1 main_v3
  let main_c : IVec S_ 1 := constantI S_ 1 1#1
  let main_v5 : IVec S_ 1 := (fun x v => Host.reduce IntOp.andi x v reducesTo_S2x512x768_S_d0_1_2 h_S_) main_v4 main_c
  let main_cst_1 : FVec F S_ .f32 := constant S_ .f32 0xFF800000#32
  let main_v6 : FVec F S768x512 .f32 := broadcastInDim S768x512 ![] bcast_S_S768x512 main_cst_1
  let main_v7 : IVec S768x512 1 := cmpf .ogt main_arg1 main_v6
  let main_cst_2 : FVec F S_ .f32 := constant S_ .f32 0x7F800000#32
  let main_v8 : FVec F S768x512 .f32 := broadcastInDim S768x512 ![] bcast_S_S768x512 main_cst_2
  let main_v9 : IVec S768x512 1 := cmpf .olt main_arg1 main_v8
  let main_v10 : IVec S768x512 1 := andi main_v7 main_v9
  let main_c_3 : IVec S_ 1 := constantI S_ 1 1#1
  let main_v11 : IVec S_ 1 := (fun x v => Host.reduce IntOp.andi x v reducesTo_S768x512_S_d0_1 h_S_) main_v10 main_c_3
  let main_v12 : IVec S_ 1 := andi main_v5 main_v11
  let main_cst_4 : FVec F S_ .f32 := constant S_ .f32 0xFF800000#32
  let main_v13 : FVec F S2x512x8x64 .f32 := broadcastInDim S2x512x8x64 ![] bcast_S_S2x512x8x64 main_cst_4
  let main_v14 : IVec S2x512x8x64 1 := cmpf .ogt main_arg2 main_v13
  let main_cst_5 : FVec F S_ .f32 := constant S_ .f32 0x7F800000#32
  let main_v15 : FVec F S2x512x8x64 .f32 := broadcastInDim S2x512x8x64 ![] bcast_S_S2x512x8x64 main_cst_5
  fn_part1 (F := F) main_arg2 main_v12 main_v14 main_v15
-- ==== Pre_finite_ReferenceIdeal.lean ====
abbrev S2x4096x768 : Shape := ⟨3, ![2, 4096, 768]⟩
abbrev S768x512 : Shape := ⟨2, ![768, 512]⟩
abbrev S2x4096x8x64 : Shape := ⟨4, ![2, 4096, 8, 64]⟩
abbrev S512x768 : Shape := ⟨2, ![512, 768]⟩
abbrev S_ : Shape := ⟨0, ![]⟩

class Facts : Prop where
  bcast_S_S2x4096x768 : S_.BroadcastsInDim S2x4096x768 (![] : Fin 0 → Fin S2x4096x768.rank)
  reducesTo_S2x4096x768_S_d0_1_2 : S2x4096x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x4096x8x64 : S_.BroadcastsInDim S2x4096x8x64 (![] : Fin 0 → Fin S2x4096x8x64.rank)
  reducesTo_S2x4096x8x64_S_d0_1_2_3 : S2x4096x8x64.ReducesTo [0, 1, 2, 3] S_

variable [Facts]

def fn_part1 {F : FTy → Type} [FloatOps F] (main_arg2 : FVec F S2x4096x8x64 .f32) (main_v12 : IVec S_ 1) (main_v14 : IVec S2x4096x8x64 1) (main_v15 : FVec F S2x4096x8x64 .f32) : IVec S_ 1 :=
  let main_v16 : IVec S2x4096x8x64 1 := cmpf .olt main_arg2 main_v15
  let main_v17 : IVec S2x4096x8x64 1 := andi main_v14 main_v16
  let main_c_6 : IVec S_ 1 := constantI S_ 1 1#1
  let main_v18 : IVec S_ 1 := (fun x v => Host.reduce IntOp.andi x v reducesTo_S2x4096x8x64_S_d0_1_2_3 h_S_) main_v17 main_c_6
  let main_v19 : IVec S_ 1 := andi main_v12 main_v18
  main_v19

def fn {F : FTy → Type} [FloatOps F] (main_arg0 : FVec F S2x4096x768 .f32) (main_arg1 : FVec F S768x512 .f32) (main_arg2 : FVec F S2x4096x8x64 .f32) (main_arg3 : FVec F S2x4096x8x64 .f32) (main_arg4 : FVec F S512x768 .f32) : IVec S_ 1 :=
  let main_cst : FVec F S_ .f32 := constant S_ .f32 0xFF800000#32
  let main_v0 : FVec F S2x4096x768 .f32 := broadcastInDim S2x4096x768 ![] bcast_S_S2x4096x768 main_cst
  let main_v1 : IVec S2x4096x768 1 := cmpf .ogt main_arg0 main_v0
  let main_cst_0 : FVec F S_ .f32 := constant S_ .f32 0x7F800000#32
  let main_v2 : FVec F S2x4096x768 .f32 := broadcastInDim S2x4096x768 ![] bcast_S_S2x4096x768 main_cst_0
  let main_v3 : IVec S2x4096x768 1 := cmpf .olt main_arg0 main_v2
  let main_v4 : IVec S2x4096x768 1 := andi main_v1 main_v3
  let main_c : IVec S_ 1 := constantI S_ 1 1#1
  let main_v5 : IVec S_ 1 := (fun x v => Host.reduce IntOp.andi x v reducesTo_S2x4096x768_S_d0_1_2 h_S_) main_v4 main_c
  let main_cst_1 : FVec F S_ .f32 := constant S_ .f32 0xFF800000#32
  let main_v6 : FVec F S768x512 .f32 := broadcastInDim S768x512 ![] bcast_S_S768x512 main_cst_1
  let main_v7 : IVec S768x512 1 := cmpf .ogt main_arg1 main_v6
  let main_cst_2 : FVec F S_ .f32 := constant S_ .f32 0x7F800000#32
  let main_v8 : FVec F S768x512 .f32 := broadcastInDim S768x512 ![] bcast_S_S768x512 main_cst_2
  let main_v9 : IVec S768x512 1 := cmpf .olt main_arg1 main_v8
  let main_v10 : IVec S768x512 1 := andi main_v7 main_v9
  let main_c_3 : IVec S_ 1 := constantI S_ 1 1#1
  let main_v11 : IVec S_ 1 := (fun x v => Host.reduce IntOp.andi x v reducesTo_S768x512_S_d0_1 h_S_) main_v10 main_c_3
  let main_v12 : IVec S_ 1 := andi main_v5 main_v11
  let main_cst_4 : FVec F S_ .f32 := constant S_ .f32 0xFF800000#32
  let main_v13 : FVec F S2x4096x8x64 .f32 := broadcastInDim S2x4096x8x64 ![] bcast_S_S2x4096x8x64 main_cst_4
  let main_v14 : IVec S2x4096x8x64 1 := cmpf .ogt main_arg2 main_v13
  let main_cst_5 : FVec F S_ .f32 := constant S_ .f32 0x7F800000#32
  let main_v15 : FVec F S2x4096x8x64 .f32 := broadcastInDim S2x4096x8x64 ![] bcast_S_S2x4096x8x64 main_cst_5
  fn_part1 (F := F) main_arg2 main_v12 main_v14 main_v15
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S7x2x512x8x64 : Shape := ⟨5, ![7, 2, 512, 8, 64]⟩
abbrev S7 : Shape := ⟨1, ![7]⟩
abbrev S_ : Shape := ⟨0, ![]⟩
abbrev S1x512x768 : Shape := ⟨3, ![1, 512, 768]⟩
abbrev S512x512 : Shape := ⟨2, ![512, 512]⟩
abbrev S512x64 : Shape := ⟨2, ![512, 64]⟩
abbrev S512x1 : Shape := ⟨2, ![512, 1]⟩
abbrev S1 : Shape := ⟨1, ![1]⟩
abbrev S1x2x512x8x64 : Shape := ⟨5, ![1, 2, 512, 8, 64]⟩
abbrev S1x512x8x64 : Shape := ⟨4, ![1, 512, 8, 64]⟩
abbrev S512x8x64 : Shape := ⟨3, ![512, 8, 64]⟩
abbrev S512 : Shape := ⟨1, ![512]⟩
abbrev S1x1x512x8x64 : Shape := ⟨5, ![1, 1, 512, 8, 64]⟩

abbrev nBuf : Space → Nat
  | .hbm => 6
  | .vmem => 8
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x8x64, .f32⟩
  | .hbm, ⟨3, _⟩ => ⟨S2x512x8x64, .f32⟩
  | .hbm, ⟨4, _⟩ => ⟨S512x768, .f32⟩
  | .hbm, ⟨5, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S2x512x8x64, .f32⟩
  | .local _ .vmem, ⟨3, _⟩ => ⟨S2x512x8x64, .f32⟩
  | .local _ .vmem, ⟨4, _⟩ => ⟨S512x768, .f32⟩
  | .local _ .vmem, ⟨5, _⟩ => ⟨S2x512x768, .f32⟩
  | .local _ .vmem, ⟨6, _⟩ => ⟨S7x2x512x8x64, .f32⟩
  | .local _ .vmem, ⟨7, _⟩ => ⟨S7x2x512x8x64, .f32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_70 : BitVec 32 := 1#32
  let v112 : BitVec 32 := Scalar.muli v7 c1_i32_70
  let v113 : BitVec 32 := Scalar.addi c0_i32_71 v112
  v113.toNat
def k0_dev4 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_79 : BitVec 32 := 1#32
  let v120 : BitVec 32 := Scalar.muli v7 c1_i32_79
  let v121 : BitVec 32 := Scalar.addi c0_i32_80 v120
  v121.toNat
def k0_dev5 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_209 : BitVec 32 := 1#32
  let v368 : BitVec 32 := Scalar.muli v7 c1_i32_209
  let v369 : BitVec 32 := Scalar.addi c0_i32_210 v368
  v369.toNat
def k0_dev6 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_223 : BitVec 32 := 1#32
  let v378 : BitVec 32 := Scalar.muli v7 c1_i32_223
  let v379 : BitVec 32 := Scalar.addi c0_i32_224 v378
  v379.toNat
def k0_dev7 (d0 : Dev nD) : Nat :=
  let c0_i32_383 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_382 : BitVec 32 := 1#32
  let v636 : BitVec 32 := Scalar.muli v7 c1_i32_382
  let v637 : BitVec 32 := Scalar.addi c0_i32_383 v636
  v637.toNat
def k0_dev8 (d0 : Dev nD) : Nat :=
  let c0_i32_397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_396 : BitVec 32 := 1#32
  let v646 : BitVec 32 := Scalar.muli v7 c1_i32_396
  let v647 : BitVec 32 := Scalar.addi c0_i32_397 v646
  v647.toNat
def k0_dev9 (d0 : Dev nD) : Nat :=
  let c0_i32_556 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_555 : BitVec 32 := 1#32
  let v904 : BitVec 32 := Scalar.muli v7 c1_i32_555
  let v905 : BitVec 32 := Scalar.addi c0_i32_556 v904
  v905.toNat
def k0_dev10 (d0 : Dev nD) : Nat :=
  let c0_i32_570 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_569 : BitVec 32 := 1#32
  let v914 : BitVec 32 := Scalar.muli v7 c1_i32_569
  let v915 : BitVec 32 := Scalar.addi c0_i32_570 v914
  v915.toNat
def k0_dev11 (d0 : Dev nD) : Nat :=
  let c0_i32_727 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_726 : BitVec 32 := 1#32
  let v1172 : BitVec 32 := Scalar.muli v7 c1_i32_726
  let v1173 : BitVec 32 := Scalar.addi c0_i32_727 v1172
  v1173.toNat
def k0_dev12 (d0 : Dev nD) : Nat :=
  let c0_i32_741 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_740 : BitVec 32 := 1#32
  let v1182 : BitVec 32 := Scalar.muli v7 c1_i32_740
  let v1183 : BitVec 32 := Scalar.addi c0_i32_741 v1182
  v1183.toNat
def k0_dev13 (d0 : Dev nD) : Nat :=
  let c0_i32_898 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_897 : BitVec 32 := 1#32
  let v1440 : BitVec 32 := Scalar.muli v7 c1_i32_897
  let v1441 : BitVec 32 := Scalar.addi c0_i32_898 v1440
  v1441.toNat
def k0_dev14 (d0 : Dev nD) : Nat :=
  let c0_i32_912 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_911 : BitVec 32 := 1#32
  let v1450 : BitVec 32 := Scalar.muli v7 c1_i32_911
  let v1451 : BitVec 32 := Scalar.addi c0_i32_912 v1450
  v1451.toNat
def k0_dev15 (d0 : Dev nD) : Nat :=
  let c0_i32_1069 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1068 : BitVec 32 := 1#32
  let v1708 : BitVec 32 := Scalar.muli v7 c1_i32_1068
  let v1709 : BitVec 32 := Scalar.addi c0_i32_1069 v1708
  v1709.toNat
def k0_dev16 (d0 : Dev nD) : Nat :=
  let c0_i32_1083 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1082 : BitVec 32 := 1#32
  let v1718 : BitVec 32 := Scalar.muli v7 c1_i32_1082
  let v1719 : BitVec 32 := Scalar.addi c0_i32_1083 v1718
  v1719.toNat
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x4096x768 : Shape := ⟨3, ![2, 4096, 768]⟩
abbrev S768x512 : Shape := ⟨2, ![768, 512]⟩
abbrev S2x4096x8x64 : Shape := ⟨4, ![2, 4096, 8, 64]⟩
abbrev S512x768 : Shape := ⟨2, ![512, 768]⟩
abbrev S2x4096x512 : Shape := ⟨3, ![2, 4096, 512]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2x8x4096x4096 : Shape := ⟨4, ![2, 8, 4096, 4096]⟩
abbrev S1x1x4096x4096 : Shape := ⟨4, ![1, 1, 4096, 4096]⟩
abbrev S2x8x4096 : Shape := ⟨3, ![2, 8, 4096]⟩
abbrev S2x8x4096x1 : Shape := ⟨4, ![2, 8, 4096, 1]⟩
abbrev S1x1x4096x1 : Shape := ⟨4, ![1, 1, 4096, 1]⟩
abbrev S2x8x64x4096 : Shape := ⟨4, ![2, 8, 64, 4096]⟩

abbrev nBuf : Space → Nat
  | .hbm => 123
  | .vmem => 0
  | .smem => 0
  | _ => 0

abbrev bufTy : (tb : Table) → Fin (tcTables nBuf tb) → BufTy
  | .hbm, ⟨0, _⟩ => ⟨S2x4096x768, .f32⟩
  | .hbm, ⟨1, _⟩ => ⟨S768x512, .f32⟩
  | .hbm, ⟨2, _⟩ => ⟨S2x4096x8x64, .f32⟩
  | .hbm, ⟨3, _⟩ => ⟨S2x4096x8x64, .f32⟩
  | .hbm, ⟨4, _⟩ => ⟨S512x768, .f32⟩
  | .hbm, ⟨5, _⟩ => ⟨S2x4096x512, .f32⟩
  | .hbm, ⟨6, _⟩ => ⟨S2x4096x8x64, .f32⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S4096x4096, .i32⟩
  | .hbm, ⟨48, _⟩ => ⟨S4096x4096, .i32⟩
  | .hbm, ⟨49, _⟩ => ⟨S4096x4096, .i1⟩
  | .hbm, ⟨50, _⟩ => ⟨S_, .i32⟩
  | .hbm, ⟨51, _⟩ => ⟨S1x4096, .i32⟩
  | .hbm, ⟨52, _⟩ => ⟨S1x4096, .i1⟩
  | .hbm, ⟨53, _⟩ => ⟨S4096x4096, .i1⟩
  | .hbm, ⟨54, _⟩ => ⟨S4096x4096, .i1⟩
  | .hbm, ⟨55, _⟩ => ⟨S4096x4096, .i32⟩
  | .hbm, ⟨56, _⟩ => ⟨S4096x4096, .i32⟩
  | .hbm, ⟨57, _⟩ => ⟨S4096x4096, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S4096x4096, .i32⟩
  | .hbm, ⟨65, _⟩ => ⟨S4096x4096, .i32⟩
  | .hbm, ⟨66, _⟩ => ⟨S_, .i32⟩
  | .hbm, ⟨67, _⟩ => ⟨S4096x4096, .i32⟩
  | .hbm, ⟨68, _⟩ => ⟨S4096x4096, .i1⟩
  | .hbm, ⟨69, _⟩ => ⟨S_, .i32⟩
  | .hbm, ⟨70, _⟩ => ⟨S4096x4096, .i32⟩
  | .hbm, ⟨71, _⟩ => ⟨S4096x4096, .i1⟩
  | .hbm, ⟨72, _⟩ => ⟨S_, .i32⟩
  | .hbm, ⟨73, _⟩ => ⟨S_, .i1⟩
  | .hbm, ⟨74, _⟩ => ⟨S4096x4096, .i1⟩
  | .hbm, ⟨75, _⟩ => ⟨S4096x4096, .i1⟩
  | .hbm, ⟨76, _⟩ => ⟨S4096x4096, .i1⟩
  | .hbm, ⟨77, _⟩ => ⟨S4096x4096, .i32⟩
  | .hbm, ⟨78, _⟩ => ⟨S4096x4096, .i32⟩
  | .hbm, ⟨79, _⟩ => ⟨S4096x4096, .i32⟩
  | .hbm, ⟨80, _⟩ => ⟨S_, .i32⟩
  | .hbm, ⟨81, _⟩ => ⟨S4096x4096, .i32⟩
  | .hbm, ⟨82, _⟩ => ⟨S4096x4096, .i1⟩
  | .hbm, ⟨83, _⟩ => ⟨S4096x4096, .i1⟩
  | .hbm, ⟨84, _⟩ => ⟨S2x8x4096x4096, .f32⟩
  | .hbm, ⟨85, _⟩ => ⟨S_, .f32⟩
  | .hbm, ⟨86, _⟩ => ⟨S2x8x4096x4096, .f32⟩
  | .hbm, ⟨87, _⟩ => ⟨S2x8x4096x4096, .f32⟩
  | .hbm, ⟨88, _⟩ => ⟨S1x1x4096x4096, .i1⟩
  | .hbm, ⟨89, _⟩ => ⟨S_, .f32⟩
  | .hbm, ⟨90, _⟩ => ⟨S_, .f32⟩
  | .hbm, ⟨91, _⟩ => ⟨S2x8x4096x4096, .i1⟩
  | .hbm, ⟨92, _⟩ => ⟨S2x8x4096x4096, .f32⟩
  | .hbm, ⟨93, _⟩ => ⟨S2x8x4096x4096, .f32⟩
  | .hbm, ⟨94, _⟩ => ⟨S_, .f32⟩
  | .hbm, ⟨95, _⟩ => ⟨S2x8x4096, .f32⟩
  | .hbm, ⟨96, _⟩ => ⟨S2x8x4096x1, .f32⟩
  | .hbm, ⟨97, _⟩ => ⟨S2x8x4096x4096, .f32⟩
  | .hbm, ⟨98, _⟩ => ⟨S2x8x4096x4096, .f32⟩
  | .hbm, ⟨99, _⟩ => ⟨S2x8x4096x4096, .f32⟩
  | .hbm, ⟨100, _⟩ => ⟨S_, .i1⟩
  | .hbm, ⟨101, _⟩ => ⟨S4096, .i1⟩
  | .hbm, ⟨102, _⟩ => ⟨S1x1x4096x1, .i1⟩
  | .hbm, ⟨103, _⟩ => ⟨S_, .f32⟩
  | .hbm, ⟨104, _⟩ => ⟨S2x8x4096, .f32⟩
  | .hbm, ⟨105, _⟩ => ⟨S2x8x4096x1, .f32⟩
  | .hbm, ⟨106, _⟩ => ⟨S_, .f32⟩
  | .hbm, ⟨107, _⟩ => ⟨S_, .f32⟩
  | .hbm, ⟨108, _⟩ => ⟨S2x8x4096x1, .i1⟩
  | .hbm, ⟨109, _⟩ => ⟨S2x8x4096x1, .f32⟩
  | .hbm, ⟨110, _⟩ => ⟨S2x8x4096x1, .f32⟩
  | .hbm, ⟨111, _⟩ => ⟨S2x8x4096x4096, .f32⟩
  | .hbm, ⟨112, _⟩ => ⟨S2x8x4096x4096, .f32⟩
  | .hbm, ⟨113, _⟩ => ⟨S1x1x4096x1, .i1⟩
  | .hbm, ⟨114, _⟩ => ⟨S_, .f32⟩
  | .hbm, ⟨115, _⟩ => ⟨S_, .f32⟩
  | .hbm, ⟨116, _⟩ => ⟨S2x8x4096x4096, .i1⟩
  | .hbm, ⟨117, _⟩ => ⟨S2x8x4096x4096, .f32⟩
  | .hbm, ⟨118, _⟩ => ⟨S2x8x4096x4096, .f32⟩
  | .hbm, ⟨119, _⟩ => ⟨S2x8x64x4096, .f32⟩
  | .hbm, ⟨120, _⟩ => ⟨S2x4096x8x64, .f32⟩
  | .hbm, ⟨121, _⟩ => ⟨S2x4096x512, .f32⟩
  | .hbm, ⟨122, _⟩ => ⟨S2x4096x768, .f32⟩
  | _, _ => ⟨S2x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Kernel.lean ====
module

public import proofs.«01_k».proof.Proof.Gen.KernelIdeal.Skeleton

@[expose] public section

noncomputable section

/-!
# The kernel body hop by hop

The printed body is one straight line of operations cut into numbered parts. Here it is written again as eight calls of
one hop, over a state of the sixteen accumulators and sixteen denominators, and `body_eq` says the printed body is that
program.
-/

namespace Cert.Attn

open Cert.KernelIdeal Cert.KernelIdeal.Gen
open Idealize.ShloMosaic Idealize.ShloMosaic.TcCoe Idealize.SL.Sem

variable {F : FTy → Type} [FloatOps F]

/-! ## Memory -/

abbrev xM : Memref sig .tc .vmem S2x512x768 .f32 := Memref.whole cc0_stg0_0
abbrev wqM : Memref sig .tc .vmem S768x512 .f32 := Memref.whole cc0_stg1_0
abbrev woM : Memref sig .tc .vmem S512x768 .f32 := Memref.whole cc0_stg4_0
abbrev oM : Memref sig .tc .vmem S2x512x768 .f32 := Memref.whole cc0_stg5_0
/-- A device's own chunk of the keys (`false`) or of the values (`true`), -/
def own : Bool → Memref sig .tc .vmem S2x512x8x64 .f32
  | false => Memref.whole cc0_stg2_0
  | true => Memref.whole cc0_stg3_0
/-- and the seven landing slots for the chunks of the other devices. -/
def gath : Bool → Memref sig .tc .vmem S7x2x512x8x64 .f32
  | false => Memref.whole cc0_scratch0
  | true => Memref.whole cc0_scratch1

theorem inb_slot (h : Fin 7) : ∀ a, (![h.val, 0, 0, 0, 0] : Fin 5 → Nat) a + S1x2x512x8x64.size a ≤ S7x2x512x8x64.size a := by
  revert h; decide
theorem inb_sem (h : Fin 7) : ∀ a, (![h.val] : Fin 1 → Nat) a + S1.size a ≤ S7.size a := by
  revert h; decide
theorem inb_row (h : Fin 7) (b : Fin 2) : ∀ a, (![h.val, b.val, 0, 0, 0] : Fin 5 → Nat) a + S1x1x512x8x64.size a ≤ S7x2x512x8x64.size a := by
  revert h b; decide
theorem inb_row0 (b : Fin 2) : ∀ a, (![b.val, 0, 0, 0] : Fin 4 → Nat) a + S1x512x8x64.size a ≤ S2x512x8x64.size a := by
  revert b; decide
theorem inb_out (b : Fin 2) : ∀ a, (![b.val, 0, 0] : Fin 3 → Nat) a + S1x512x768.size a ≤ S2x512x768.size a := by
  revert b; decide
theorem cut_head (o : Fin 8) : S512x512.Slices ![0, 64 * o.val] S512x64 := by
  revert o; decide

/-- Landing slot `h`. -/
abbrev slot (a : Bool) (h : Fin 7) : Memref sig .tc .vmem S2x512x8x64 .f32 :=
  ((gath a).slice (Rect.unit (s := S7x2x512x8x64) ![h.val, 0, 0, 0, 0] S1x2x512x8x64.size (inb_slot h)) (fun _ => rfl)).squeeze S2x512x8x64 squeezes_S1x2x512x8x64_S2x512x8x64

/-- The buffer a hop reads and passes on: the device's own chunk at hop 0, then the slot the hop before filled. -/
def src (a : Bool) : Fin 8 → Memref sig .tc .vmem S2x512x8x64 .f32
  | ⟨0, _⟩ => own a
  | ⟨h + 1, hh⟩ => slot a ⟨h, Nat.lt_of_succ_lt_succ hh⟩

/-- The transfers' semaphores: whether it is the receive side's, whether it is the values', and the hop. -/
abbrev Cl := Bool × Bool × Fin 7

def semsOf : Bool → Bool → DmaSems sig S7
  | false, false => cc0_scratch2
  | true, false => cc0_scratch3
  | false, true => cc0_scratch4
  | true, true => cc0_scratch5

def dsem (k : Cl) : DmaSem sig :=
  (((semsOf k.1 k.2.1).slice (Rect.unit (s := S7) ![k.2.2.val] S1.size (inb_sem k.2.2))).squeeze S_ squeezes_S1_S_).sem

abbrev barS : Sem sig := (SemArray.scalar (sig.barrier 0 rfl) : Sems sig S_).sem

/-! ## Values -/

/-- The scaled query rows of one batch entry. -/
def qOf (x : Vec F S1x512x768 .f32) (w : Vec F S768x512 .f32) : FVec F S512x512 .f32 := k0_pay4 x w

/-- The columns of head `o`. -/
def head (o : Fin 8) (a : FVec F S512x512 .f32) : FVec F S512x64 .f32 :=
  extractStridedSlice S512x64 ![0, 64 * o.val] a (cut_head o)

/-- The masked weights `exp (q · k)` of one head. -/
def wgt (M : IVec S512x512 1) (o : Fin 8) (q k : FVec F S512x512 .f32) : FVec F S512x512 .f32 :=
  select M (exp (matmul dot_S512x64_S512x64_S512x512_1_1_0_0_n_n none (head o q) (head o k) (constant S512x512 .f32 0x00000000#32)))
    (broadcast S512x512 (Scalar.ofBits .f32 0x00000000#32))

def accStep (M : IVec S512x512 1) (o : Fin 8) (q k v : FVec F S512x512 .f32) (a : FVec F S512x64 .f32) : FVec F S512x64 .f32 :=
  addf a (matmul dot_S512x512_S512x64_S512x64_1_0_0_1_n_n none (wgt M o q k) (head o v) (constant S512x64 .f32 0x00000000#32))

def denStep (M : IVec S512x512 1) (o : Fin 8) (q k : FVec F S512x512 .f32) (a : FVec F S512x1 .f32) : FVec F S512x1 .f32 :=
  addf a (shapeCast S512x1 (multiReduction .add [1] S512 (wgt M o q k) 0x00000000#32 reduces_S512x512_S512 (.inl rfl) rfl) shapeCasts_S512_S512x1)

/-- The device's position as the kernel computes it. -/
def posW (d : Dev nD) : BitVec 32 := Scalar.remsi (Scalar.divsi (Dev.word d) 1#32) 8#32

/-- The block number of a key column within its device's chunk. -/
def colBlk : IVec S512x512 32 :=
  k0_pay41 (iota .tc S512x512 32 [1] iota_S512x512_d1_w32) 64#32 k0_pay39 k0_pay40
    (Scalar.subi (Scalar.extui (Scalar.cmpi .sgt 64#32 0#32)) (Scalar.extui (Scalar.cmpi .slt 64#32 0#32)))

/-- The block number of a key column, for the chunk met at hop `h`. -/
def keyBlk (d : Dev nD) (h : Fin 8) : IVec S512x512 32 :=
  addi (broadcast S512x512 (Scalar.muli (Scalar.remsi (Scalar.addi (Scalar.subi (posW d) (BitVec.ofNat 32 h.val)) 8#32) 8#32) 8#32)) colBlk

/-- Which key columns each query row keeps at hop `h`. -/
def maskOf (d : Dev nD) (h : Fin 8) : IVec S512x512 1 :=
  ori (ori (cmpi .eq (k0_pay38 (posW d)) (keyBlk d h)) (cmpi .eq (keyBlk d h) (broadcast S512x512 0#32)))
    (cmpi .eq (remsi (addi (k0_pay38 (posW d)) (keyBlk d h)) (broadcast S512x512 3#32)) (broadcast S512x512 0#32))

/-- The accumulators and denominators. -/
structure St (F : FTy → Type) where
  acc : Fin 2 → Fin 8 → FVec F S512x64 .f32
  den : Fin 2 → Fin 8 → FVec F S512x1 .f32

def St.zero : St F := ⟨fun _ _ => broadcast S512x64 (Scalar.ofBits .f32 0x00000000#32), fun _ _ => broadcast S512x1 (Scalar.ofBits .f32 0x00000000#32)⟩

def St.step (M : IVec S512x512 1) (q k v : Fin 2 → FVec F S512x512 .f32) (s : St F) : St F :=
  ⟨fun b o => accStep M o (q b) (k b) (v b) (s.acc b o), fun b o => denStep M o (q b) (k b) (s.den b o)⟩

def ctx (s : St F) (b : Fin 2) (o : Fin 8) : FVec F S512x64 .f32 :=
  divf (s.acc b o) (broadcastTo S512x64 (s.den b o) broadcasts_S512x1_S512x64)

/-- One batch entry of the result. -/
def outOf (s : St F) (b : Fin 2) (wo : Vec F S512x768 .f32) : FVec F S1x512x768 .f32 :=
  shapeCast S1x512x768 (matmul dot_S512x512_S512x768_S512x768_1_0_0_1_n_n none
    (concatenate S512x512 1 [⟨S512x64, ctx s b 0⟩, ⟨S512x64, ctx s b 1⟩, ⟨S512x64, ctx s b 2⟩, ⟨S512x64, ctx s b 3⟩, ⟨S512x64, ctx s b 4⟩, ⟨S512x64, ctx s b 5⟩, ⟨S512x64, ctx s b 6⟩, ⟨S512x64, ctx s b 7⟩] concatenates_S512x64_S512x64_S512x64_S512x64_S512x64_S512x64_S512x64_S512x64_S512x512_d1)
    (shapeCast S512x768 wo shapeCasts_S512x768_S512x768) (constant S512x768 .f32 0x00000000#32)) shapeCasts_S512x768_S1x512x768

/-! ## The program -/

abbrev P (F : FTy → Type) (α : Type) := Prog (TpuEff nD τ sig (Elt F) Λ₀ .tc) α

def flat0 (x : Vec F S1x512x8x64 .f32) : FVec F S512x512 .f32 :=
  shapeCast S512x512 (shapeCast S512x8x64 x shapeCasts_S1x512x8x64_S512x8x64) shapeCasts_S512x8x64_S512x512
def flat1 (x : Vec F S1x1x512x8x64 .f32) : FVec F S512x512 .f32 :=
  shapeCast S512x512 (shapeCast S512x8x64 x shapeCasts_S1x1x512x8x64_S512x8x64) shapeCasts_S512x8x64_S512x512

/-- One batch entry of the chunk met at hop `h`, as a matrix of 512 columns, 8 heads by 64. -/
def ld (a : Bool) (b : Fin 2) : Fin 8 → P F (FVec F S512x512 .f32)
  | ⟨0, _⟩ => do
    let x : Vec F S1x512x8x64 .f32 ← Prog.lift (.load (own a) (Rect.unit (s := S2x512x8x64) ![b.val, 0, 0, 0] S1x512x8x64.size (inb_row0 b)).toLoadRect (View.loadsAt_vmem h_S1x512x8x64))
    pure (flat0 x)
  | ⟨h + 1, hh⟩ => do
    let x : Vec F S1x1x512x8x64 .f32 ← Prog.lift (.load (gath a) (Rect.unit (s := S7x2x512x8x64) ![h, b.val, 0, 0, 0] S1x1x512x8x64.size (inb_row ⟨h, Nat.lt_of_succ_lt_succ hh⟩ b)).toLoadRect (View.loadsAt_vmem h_S1x1x512x8x64))
    pure (flat1 x)

theorem wx_slot (a : Bool) (h : Fin 7) : (slot a h).view.WordExact := (View.wordExact_bits rfl).reshape _ _
theorem wx_src : ∀ (a : Bool) (h : Fin 8), (src a h).view.WordExact
  | false, ⟨0, _⟩ => (Memref.isWhole_whole _).wordExact
  | true, ⟨0, _⟩ => (Memref.isWhole_whole _).wordExact
  | a, ⟨h + 1, hh⟩ => wx_slot a ⟨h, Nat.lt_of_succ_lt_succ hh⟩

theorem slot_vmem (a : Bool) (h : Fin 7) : (slot a h).view.ref.isScScratch = false := by cases a <;> rfl

/-- Start passing the chunk of hop `h` on to device `n`. -/
def send (a : Bool) (n : Dev nD) (h : Fin 7) : P F PUnit :=
  Prog.lift (.enqueueDma (src a h.castSucc) (.remote (Dev.tc n) (slot a h) (.dma (dsem (false, a, h))) (slot_vmem a h)) (.dma (dsem (true, a, h))) (wx_src _ _) (wx_slot a h) ⟨⟨rfl, Or.inl rfl⟩, trivial⟩)
def waitSend (a : Bool) (h : Fin 7) : P F PUnit :=
  Prog.lift (.waitDma2 (dsem (false, a, h)) (slot a h) (src a h.castSucc) (wx_slot a h) (wx_src _ _))
def waitRecv (a : Bool) (h : Fin 7) : P F PUnit :=
  Prog.lift (.waitDma2 (dsem (true, a, h)) (src a h.castSucc) (slot a h) (wx_src _ _) (wx_slot a h))

def attend (d : Dev nD) (q : Fin 2 → FVec F S512x512 .f32) (h : Fin 8) (s : St F) : P F (St F) := do
  let k0 ← ld false 0 h
  let v0 ← ld true 0 h
  let k1 ← ld false 1 h
  let v1 ← ld true 1 h
  pure (s.step (maskOf d h) q ![k0, k1] ![v0, v1])

def hop (n n' : Dev nD) (d : Dev nD) (q : Fin 2 → FVec F S512x512 .f32) (h : Fin 7) (s : St F) : P F (St F) := do
  send false n h
  send true n' h
  let s' ← attend d q h.castSucc s
  waitSend false h
  waitRecv false h
  waitSend true h
  waitRecv true h
  pure s'

def ldX (b : Fin 2) : P F (Vec F S1x512x768 .f32) :=
  Prog.lift (.load xM (Rect.unit (s := S2x512x768) ![b.val, 0, 0] S1x512x768.size (inb_out b)).toLoadRect (View.loadsAt_vmem h_S1x512x768))
def ldWq : P F (Vec F S768x512 .f32) :=
  Prog.lift (.load wqM (Rect.unit (s := S768x512) ![0, 0] S768x512.size inb_S768x512_S768x512_0_0).toLoadRect (View.loadsAt_vmem h_S768x512))
def ldWo : P F (Vec F S512x768 .f32) :=
  Prog.lift (.load woM (Rect.unit (s := S512x768) ![0, 0] S512x768.size inb_S512x768_S512x768_0_0).toLoadRect (View.loadsAt_vmem h_S512x768))
def finish (b : Fin 2) (s : St F) : P F PUnit := do
  let w ← ldWo
  let _ ← (Prog.lift (.load oM (Rect.unit (s := S2x512x768) ![b.val, 0, 0] S1x512x768.size (inb_out b)).toLoadRect (View.loadsAt_vmem h_S1x512x768)) : P F (Vec F S1x512x768 .f32))
  Prog.lift (.store oM (Rect.unit (s := S2x512x768) ![b.val, 0, 0] S1x512x768.size (inb_out b)) (outOf s b w) Finset.univ (View.stores_vmem_bits_univ h_S1x512x768 rfl) (.inl rfl))

def front : P F (Dev nD × (Fin 2 → FVec F S512x512 .f32)) := do
  let d : Dev nD ← Prog.lift .deviceId
  semSignalWord (⟨k0_dev1 d, k0_dev1_lt d⟩ : Dev nD) barS 1#32
  semSignalWord (⟨k0_dev2 d, k0_dev2_lt d⟩ : Dev nD) barS 1#32
  semWaitWord barS 2#32
  let x0 ← ldX 0
  let w0 ← ldWq
  let x1 ← ldX 1
  let w1 ← ldWq
  pure (d, ![qOf x0 w0, qOf x1 w1])

def prog : P F PUnit := do
  let (d, q) ← front
  let s ← hop ⟨k0_dev3 d, k0_dev3_lt d⟩ ⟨k0_dev4 d, k0_dev4_lt d⟩ d q 0 St.zero
  let s ← hop ⟨k0_dev5 d, k0_dev5_lt d⟩ ⟨k0_dev6 d, k0_dev6_lt d⟩ d q 1 s
  let s ← hop ⟨k0_dev7 d, k0_dev7_lt d⟩ ⟨k0_dev8 d, k0_dev8_lt d⟩ d q 2 s
  let s ← hop ⟨k0_dev9 d, k0_dev9_lt d⟩ ⟨k0_dev10 d, k0_dev10_lt d⟩ d q 3 s
  let s ← hop ⟨k0_dev11 d, k0_dev11_lt d⟩ ⟨k0_dev12 d, k0_dev12_lt d⟩ d q 4 s
  let s ← hop ⟨k0_dev13 d, k0_dev13_lt d⟩ ⟨k0_dev14 d, k0_dev14_lt d⟩ d q 5 s
  let s ← hop ⟨k0_dev15 d, k0_dev15_lt d⟩ ⟨k0_dev16 d, k0_dev16_lt d⟩ d q 6 s
  let s ← attend d q 7 s
  finish 0 s
  finish 1 s

set_option maxRecDepth 100000 in
/-- The printed body is this program. -/
theorem body_eq : cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) (Memref.whole cc0_scratch0) (Memref.isWhole_whole _) (Memref.whole cc0_scratch1) (Memref.isWhole_whole _)
    cc0_scratch2 cc0_scratch3 cc0_scratch4 cc0_scratch5 = prog := by
  rw [cc0_body_eq_skeleton]
  rfl

end Cert.Attn

end
-- ==== Proof.Memory.lean ====
module

public import proofs.«01_k».proof.Proof.Kernel
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.ValueLayout

@[expose] public section

noncomputable section

/-!
# Holding and reading the chunks

Halving a memref's share, cutting a gathered buffer into its seven slots and joining them again, and the rows that a
hop's loads read.
-/

namespace Cert.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

/-- A chunk of keys or values. -/
abbrev Chunk (F : FTy → Type) := Vec F S2x512x8x64 .f32

/-- The head a column belongs to, and its place in it. -/
def hd (j : Fin 512) : Fin 8 := ⟨j.val / 64, by omega⟩
def pl (j : Fin 512) : Fin 64 := ⟨j.val % 64, by omega⟩

/-- Batch entry `b` of a chunk as a matrix: the 8 heads' 64 columns side by side. -/
def rowOf (X : Chunk F) (b : Fin 2) : FVec F S512x512 .f32 := fun i => X (ix4 b (i 0) (hd (i 1)) (pl (i 1)))

theorem split_col (i : S512x512.Idx) :
    Shape.reshapeEquiv (shapeCasts_S512x8x64_S512x512 : S512x8x64.ShapeCasts S512x512) i = ix3 (i 0) (hd (i 1)) (pl (i 1)) :=
  Shape.reshapeEquiv_eq_of_rowMajor _ ((Shape.rowMajor_val_three (d := ![512, 8, 64]) _).trans (Eq.trans (by
    show ((i 0).val * 8 + (i 1).val / 64) * 64 + (i 1).val % 64 = (i 0).val * 512 + (i 1).val
    omega) (Shape.rowMajor_val_two (d := ![512, 512]) i).symm))

theorem flat0_read (M : Memref sig .tc .vmem S2x512x8x64 .f32) (b : Fin 2) (f : M.view.ty.Contents (Elt F)) :
    flat0 (M.view.readAt (Elt F) (Rect.unit (s := S2x512x8x64) ![b.val, 0, 0, 0] S1x512x8x64.size (inb_row0 b)).toLoadRect f)
      = rowOf (M.view.read (Elt F) f) b := by
  funext i
  unfold flat0 shapeCast rowOf
  refine (congrArg _ ((congrArg _ (split_col i)).trans (reshapeEquiv_ix3_1abc _ _ _ _))).trans ?_
  refine congrArg (M.view.read (Elt F) f) (funext fun a => Fin.ext ?_)
  fin_cases a
  · exact (Nat.add_zero _).trans (Nat.add_zero _)
  all_goals exact (Nat.zero_add _).trans (Nat.one_mul _)

theorem flat1_read (a : Bool) (h : Fin 7) (b : Fin 2) (f : (gath a).view.ty.Contents (Elt F)) :
    flat1 ((gath a).view.readAt (Elt F) (Rect.unit (s := S7x2x512x8x64) ![h.val, b.val, 0, 0, 0] S1x1x512x8x64.size (inb_row h b)).toLoadRect f)
      = rowOf ((slot a h).view.read (Elt F) f) b := by
  funext i
  unfold flat1 shapeCast rowOf
  refine (congrArg _ ((congrArg _ (split_col i)).trans (reshapeEquiv_ix3_11abc _ _ _ _))).trans ?_
  have e (r : Fin 512) (o : Fin 8) (l : Fin 64) : (slot a h).view.read (Elt F) f (ix4 b r o l) = (gath a).view.read (Elt F) f (ix5 h b r o l) := by
    show (gath a).view.read (Elt F) f ((Rect.unit (s := S7x2x512x8x64) ![h.val, 0, 0, 0, 0] S1x2x512x8x64.size (inb_slot h)).emb
      (Shape.reshapeEquiv (squeezes_S1x2x512x8x64_S2x512x8x64 : S1x2x512x8x64.Squeezes S2x512x8x64).numel_eq (ix4 b r o l))) = _
    rw [show Shape.reshapeEquiv (squeezes_S1x2x512x8x64_S2x512x8x64 : S1x2x512x8x64.Squeezes S2x512x8x64).numel_eq (ix4 b r o l)
      = ix5 (0 : Fin 1) b r o l from Shape.reshapeEquiv_eq_of_rowMajor _ (by
        rw [Shape.rowMajor_val_five, Shape.rowMajor_val_four]
        show (((0 * 2 + b.val) * 512 + r.val) * 8 + o.val) * 64 + l.val = ((b.val * 512 + r.val) * 8 + o.val) * 64 + l.val
        omega)]
    refine congrArg ((gath a).view.read (Elt F) f) (funext fun j => Fin.ext ?_)
    fin_cases j
    · exact (Nat.add_zero _).trans (Nat.add_zero _)
    all_goals exact (Nat.zero_add _).trans (Nat.one_mul _)
  refine Eq.trans ?_ (e _ _ _).symm
  refine congrArg ((gath a).view.read (Elt F) f) (funext fun j => Fin.ext ?_)
  fin_cases j
  · exact (Nat.add_zero _).trans (Nat.add_zero _)
  · exact (Nat.add_zero _).trans (Nat.add_zero _)
  all_goals exact (Nat.zero_add _).trans (Nat.one_mul _)

/-- A hop's load of one batch entry stays inside the slot. -/
theorem row_in_slot (a : Bool) (h : Fin 7) (b : Fin 2) :
    (gath a).view.setOn (Rect.unit (s := S7x2x512x8x64) ![h.val, b.val, 0, 0, 0] S1x1x512x8x64.size (inb_row h b)).toLoadRect.set ⊆ (slot a h).view.set := by
  rw [show (slot a h).view.set = (gath a).view.setOn (Rect.unit (s := S7x2x512x8x64) ![h.val, 0, 0, 0, 0] S1x2x512x8x64.size (inb_slot h)).set from
    (View.set_reshape _ _).trans (View.set_slice _ _)]
  refine Finset.map_subset_map.mpr fun i hi => ?_
  have hi' : i ∈ (Rect.unit (s := S7x2x512x8x64) ![h.val, b.val, 0, 0, 0] S1x1x512x8x64.size (inb_row h b)).set := hi
  rw [← Rect.map_emb_univ] at hi'
  obtain ⟨j, -, rfl⟩ := Finset.mem_map.mp hi'
  rw [← Rect.map_emb_univ]
  refine Finset.mem_map.mpr ⟨ix5 (0 : Fin 1) b (j 2) (j 3) (j 4), Finset.mem_univ _, funext fun x => Fin.ext ?_⟩
  have h0 : (j 0).val = 0 := Nat.lt_one_iff.mp (j 0).isLt
  have h1 : (j 1).val = 0 := Nat.lt_one_iff.mp (j 1).isLt
  fin_cases x
  · show h.val + 1 * 0 = h.val + 1 * (j 0).val; rw [h0]
  · show 0 + 1 * b.val = b.val + 1 * (j 1).val; rw [h1]; omega
  all_goals rfl

/-! ## Shares -/

section Share
variable (c : Dev nD) (M : Memref sig .tc .vmem S2x512x8x64 .f32) (X : Chunk F)

omit [FloatOps F] in
/-- A chunk held outright is its two halves. -/
theorem owns_halves : (owns (c : Thread nD τ) M fullShare X : sProp 𝕄)
    ⊢ iprop(owns (c : Thread nD τ) M fullShare.left X ∗ owns (c : Thread nD τ) M fullShare.right X) := by
  unfold owns
  iintro ⟨%f, %hf, H⟩
  ihave H := (pointsTo_share (PosShare.mem_left_op_right fullShare)).1 $$ H
  icases H with ⟨H1, H2⟩
  isplitl [H1]
  · iexists f; isplitr; · ipureintro; exact hf
    iexact H1
  · iexists f; isplitr; · ipureintro; exact hf
    iexact H2

omit [FloatOps F] in
theorem owns_of_halves : iprop(owns (c : Thread nD τ) M fullShare.left X ∗ owns (c : Thread nD τ) M fullShare.right X)
    ⊢ (owns (c : Thread nD τ) M fullShare X : sProp 𝕄) := by
  unfold owns
  iintro ⟨⟨%f, %hf, H1⟩, ⟨%g, %hg, H2⟩⟩
  iexists f
  isplitr; · ipureintro; exact hf
  have e : (M.view.loc (c : Thread nD τ) ↦[M.view.set]{fullShare.right} g : sProp 𝕄) = M.view.loc (c : Thread nD τ) ↦[M.view.set]{fullShare.right} f :=
    pointsTo_congr fun i hi => by
      obtain ⟨x, -, rfl⟩ := Finset.mem_map.mp hi
      have := congrFun (hg.trans hf.symm) x
      simp only [View.read] at this
      exact (cast_inj _).mp this
  ihave H2 := (Entails.of_eq e) $$ H2
  iapply (pointsTo_share (PosShare.mem_left_op_right fullShare)).2
  isplitl [H1]; · iexact H1
  iexact H2

end Share

/-! ## The slots of a gathered buffer -/

instance elt_nonempty : ∀ e, Nonempty (Elt F e)
  | .i1 => ⟨(0 : BitVec 1)⟩ | .i4 => ⟨(0 : BitVec 4)⟩ | .i8 => ⟨(0 : BitVec 8)⟩ | .i16 => ⟨(0 : BitVec 16)⟩
  | .i32 => ⟨(0 : BitVec 32)⟩ | .i64 => ⟨(0 : BitVec 64)⟩
  | .fp8e4m3 => ⟨(Scalar.ofBits .fp8e4m3 0 : F .fp8e4m3)⟩ | .fp8e5m2 => ⟨(Scalar.ofBits .fp8e5m2 0 : F .fp8e5m2)⟩
  | .bf16 => ⟨(Scalar.ofBits .bf16 0 : F .bf16)⟩ | .f16 => ⟨(Scalar.ofBits .f16 0 : F .f16)⟩ | .f32 => ⟨(Scalar.ofBits .f32 0 : F .f32)⟩

abbrev slotR (h : Fin 7) : Rect S7x2x512x8x64 := Rect.unit (s := S7x2x512x8x64) ![h.val, 0, 0, 0, 0] S1x2x512x8x64.size (inb_slot h)

theorem slotR_emb (h : Fin 7) (j : S1x2x512x8x64.Idx) : (slotR h).emb j = ix5 h (j 1) (j 2) (j 3) (j 4) := by
  have h0 : (j 0).val = 0 := Nat.lt_one_iff.mp (j 0).isLt
  funext x
  refine Fin.ext ?_
  fin_cases x
  · show h.val + 1 * (j 0).val = h.val; rw [h0]; rfl
  all_goals exact (Nat.zero_add _).trans (Nat.one_mul _)

theorem slotR_disj (h h' : Fin 7) (hh : h ≠ h') : Disjoint (slotR h).set (slotR h').set := by
  rw [Finset.disjoint_left]
  intro i hi hi'
  rw [← Rect.map_emb_univ] at hi hi'
  obtain ⟨j, -, rfl⟩ := Finset.mem_map.mp hi
  obtain ⟨j', -, e⟩ := Finset.mem_map.mp hi'
  rw [slotR_emb, slotR_emb] at e
  exact hh (congrFun e 0).symm

theorem slotR_cover : (Finset.univ : Finset (Fin 7)).biUnion (fun h => (slotR h).set) = Finset.univ := by
  refine Finset.eq_univ_of_forall fun i => Finset.mem_biUnion.mpr ⟨i 0, Finset.mem_univ _, ?_⟩
  rw [← Rect.map_emb_univ]
  exact Finset.mem_map.mpr ⟨ix5 (0 : Fin 1) (i 1) (i 2) (i 3) (i 4), Finset.mem_univ _, (slotR_emb _ _).trans (eq_ix5 i).symm⟩

/-- A slot held at some contents. -/
def slotAny (c : Dev nD) (a : Bool) (h : Fin 7) : sProp 𝕄 := iprop(∃ X : Chunk F, owns (c : Thread nD τ) (slot a h) fullShare X)

instance slotAny_storable (c : Dev nD) (a : Bool) (h : Fin 7) : BI.Storable (upEmb : UEmb _ 𝕄) (slotAny (F := F) c a h) := by unfold slotAny; infer_instance

omit [FloatOps F] in
theorem slotAny_of (c : Dev nD) (a : Bool) (h : Fin 7) (X) :
    (owns (c : Thread nD τ) ((gath a).slice (slotR h) (fun _ => rfl)) fullShare X : sProp 𝕄) ⊢ slotAny c a h := by
  unfold slotAny owns
  iintro ⟨%f, -, H⟩
  iexists _, f
  isplitr; · ipureintro; rfl
  rw [show (slot a h).view.set = ((gath a).slice (slotR h) (fun _ => rfl)).view.set from View.set_reshape _ _]
  iexact H

omit [FloatOps F] in
theorem of_slotAny (c : Dev nD) (a : Bool) (h : Fin 7) :
    slotAny c a h ⊢ iprop(∃ X, (owns (c : Thread nD τ) ((gath a).slice (slotR h) (fun _ => rfl)) fullShare X : sProp 𝕄)) := by
  unfold slotAny owns
  iintro ⟨%X, %f, -, H⟩
  iexists _, f
  isplitr; · ipureintro; rfl
  rw [show (slot a h).view.set = ((gath a).slice (slotR h) (fun _ => rfl)).view.set from View.set_reshape _ _]
  iexact H

omit [FloatOps F] in
/-- A gathered buffer held at any contents is its seven slots, each at some contents; -/
theorem slots_split (c : Dev nD) (a : Bool) (X) :
    (owns (c : Thread nD τ) (gath a) fullShare X : sProp 𝕄) ⊢ bigSep Finset.univ fun h => slotAny c a h :=
  (owns_rects (c : Thread nD τ) (gath a) fullShare slotR (fun _ _ => rfl) slotR_disj slotR_cover X).trans
    (bigSep_mono fun h _ => slotAny_of c a h _)

/-- and back. -/
theorem slots_join (c : Dev nD) (a : Bool) :
    (bigSep Finset.univ fun h => slotAny (F := F) c a h) ⊢ iprop(∃ X, (owns (c : Thread nD τ) (gath a) fullShare X : sProp 𝕄)) := by
  have h1 : (bigSep Finset.univ fun h => slotAny (F := F) c a h)
      ⊢ (bigSep Finset.univ fun h : Fin 7 => iprop(∃ X : S1x2x512x8x64.Idx → Elt F .f32, owns (c : Thread nD τ) ((gath a).slice (slotR h) (fun _ => rfl)) fullShare X) : sProp 𝕄) :=
    bigSep_mono fun h _ => of_slotAny c a h
  iintro H
  ihave H := h1 $$ H
  haveI : Nonempty (S1x2x512x8x64.Idx → Elt F .f32) := ⟨fun _ => Classical.choice (elt_nonempty (F := F) .f32)⟩
  ihave H := (BI.bigSep_exists_pi Finset.univ (fun (h : Fin 7) (X : S1x2x512x8x64.Idx → Elt F .f32) =>
    (owns (c : Thread nD τ) ((gath a).slice (slotR h) (fun _ => rfl)) fullShare X : sProp 𝕄))) $$ H
  icases H with ⟨%G, H⟩
  iexists (fun i => G (i 0) (ix5 (0 : Fin 1) (i 1) (i 2) (i 3) (i 4)))
  iapply (owns_of_rects (c : Thread nD τ) (gath a) fullShare slotR (fun _ _ => rfl) slotR_disj slotR_cover _)
  have e (h : Fin 7) : (fun j : S1x2x512x8x64.Idx => (fun i : S7x2x512x8x64.Idx => G (i 0) (ix5 (0 : Fin 1) (i 1) (i 2) (i 3) (i 4))) ((slotR h).emb j)) = G h := by
    funext j
    have h0 : j 0 = (0 : Fin 1) := Fin.ext (Nat.lt_one_iff.mp (j 0).isLt)
    rw [slotR_emb]
    exact congrArg (G h) ((show _ = ix5 (j 0) (j 1) (j 2) (j 3) (j 4) by rw [h0]; rfl).trans (eq_ix5 j).symm)
  iapply (Entails.of_eq (bigSep_congr fun h _ => congrArg (fun Y => (owns (c : Thread nD τ) ((gath a).slice (slotR h) (fun _ => rfl)) fullShare Y : sProp 𝕄)) (e h).symm))
  iexact H

end Cert.Attn

end
-- ==== Proof.Protocol.lean ====
module

public import proofs.«01_k».proof.Proof.Memory

@[expose] public section

noncomputable section

/-!
# The protocol between the devices

Every device `c` has one barrier cell and, per array (keys, values) and hop, a send cell and a receive cell, each used
for one round.

* The barrier cell of `c` is paid one unit by each neighbour. The device after `c` (`nxt c`) hands over all its landing
  slots, at any contents: `c` is the one who writes them.
* The receive cell of hop `h` on `c` is paid by the transfer out of the device before `c`. It hands `c` slot `h`
  holding the chunk of the device `h + 1` places before `c`.
* The send cell of hop `h` on `c` is paid by `c`'s own transfer and hands back the half share of the source that the
  transfer took; the hop's loads use the other half.

A device waits for hop `h`'s arrival while it still owes the later hops' arrivals to `nxt c`, so receive cells are
ranked by their hop, above the barrier.
-/

namespace Cert.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The ring -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

set_option backward.proofsInPublic true in
/-- The device whose chunk `c` meets at hop `h`. -/
def orig (c : Dev nD) (h : Fin 8) : Dev nD := ⟨(c.val + (8 - h.val)) % 8, Nat.mod_lt _ (by decide)⟩

theorem orig_zero (c : Dev nD) : orig c 0 = c := by revert c; decide
theorem orig_nxt (c : Dev nD) (h : Fin 7) : orig (nxt c) h.succ = orig c h.castSucc := by revert c h; decide

theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev3_eq (c : Dev nD) : (⟨k0_dev3 c, k0_dev3_lt c⟩ : Dev nD) = nxt c := by revert c; decide
theorem dev4_eq (c : Dev nD) : (⟨k0_dev4 c, k0_dev4_lt c⟩ : Dev nD) = nxt c := by revert c; decide
theorem dev5_eq (c : Dev nD) : (⟨k0_dev5 c, k0_dev5_lt c⟩ : Dev nD) = nxt c := by revert c; decide
theorem dev6_eq (c : Dev nD) : (⟨k0_dev6 c, k0_dev6_lt c⟩ : Dev nD) = nxt c := by revert c; decide
theorem dev7_eq (c : Dev nD) : (⟨k0_dev7 c, k0_dev7_lt c⟩ : Dev nD) = nxt c := by revert c; decide
theorem dev8_eq (c : Dev nD) : (⟨k0_dev8 c, k0_dev8_lt c⟩ : Dev nD) = nxt c := by revert c; decide
theorem dev9_eq (c : Dev nD) : (⟨k0_dev9 c, k0_dev9_lt c⟩ : Dev nD) = nxt c := by revert c; decide
theorem dev10_eq (c : Dev nD) : (⟨k0_dev10 c, k0_dev10_lt c⟩ : Dev nD) = nxt c := by revert c; decide
theorem dev11_eq (c : Dev nD) : (⟨k0_dev11 c, k0_dev11_lt c⟩ : Dev nD) = nxt c := by revert c; decide
theorem dev12_eq (c : Dev nD) : (⟨k0_dev12 c, k0_dev12_lt c⟩ : Dev nD) = nxt c := by revert c; decide
theorem dev13_eq (c : Dev nD) : (⟨k0_dev13 c, k0_dev13_lt c⟩ : Dev nD) = nxt c := by revert c; decide
theorem dev14_eq (c : Dev nD) : (⟨k0_dev14 c, k0_dev14_lt c⟩ : Dev nD) = nxt c := by revert c; decide
theorem dev15_eq (c : Dev nD) : (⟨k0_dev15 c, k0_dev15_lt c⟩ : Dev nD) = nxt c := by revert c; decide
theorem dev16_eq (c : Dev nD) : (⟨k0_dev16 c, k0_dev16_lt c⟩ : Dev nD) = nxt c := by revert c; decide

/-! ## The cells -/

/-- The protocol's semaphores: the barrier (`none`) and the transfers'. -/
def csem : Option Cl → SemLoc sig
  | none => .reg barS
  | some k => .dma (dsem k)

theorem csem_inj : Function.Injective csem := by decide

abbrev cell (c : Dev nD) (k : Option Cl) : GSem nD τ sig := ((c : Thread nD τ), csem k)

/-- Which of the protocol's semaphores a semaphore is. -/
def dec (s : SemLoc sig) : Option (Option Cl) := by
  classical exact if h : ∃ k, csem k = s then some h.choose else none

theorem dec_csem (k : Option Cl) : dec (csem k) = some k := by
  unfold dec
  rw [dif_pos ⟨k, rfl⟩]
  exact congrArg some (csem_inj (Exists.choose_spec (⟨k, rfl⟩ : ∃ k', csem k' = csem k)))

theorem dec_of {s : SemLoc sig} {k : Option Cl} (h : dec s = some k) : csem k = s := by
  unfold dec at h
  split at h
  next h' => exact (congrArg csem (Option.some.inj h)).symm.trans h'.choose_spec
  next h' => exact absurd h (by simp)

theorem cell_inj {c c' : Dev nD} {k k' : Option Cl} (h : cell c k = cell c' k') : c = c' ∧ k = k' :=
  ⟨Fin.ext (congrArg (fun g : GSem nD τ sig => g.1.1.val) h), csem_inj (congrArg Prod.snd h)⟩

/-- What a transfer of one chunk credits. -/
@[irreducible] def N : ℕ := (slot false 0).view.dmaCredit
theorem N_pos : 0 < N := by unfold N; exact View.dmaCredit_pos _ (Shape.numel_pos (by decide))
theorem N_slot (a : Bool) (h : Fin 7) : (slot a h).view.dmaCredit = N := by unfold N; cases a <;> rfl
theorem N_src : ∀ (a : Bool) (h : Fin 8), (src a h).view.dmaCredit = N
  | false, ⟨0, _⟩ => by unfold N; rfl
  | true, ⟨0, _⟩ => by unfold N; rfl
  | a, ⟨h + 1, hh⟩ => N_slot a ⟨h, Nat.lt_of_succ_lt_succ hh⟩

/-! ## Contents -/

/-- A device's chunk of the keys (`false`) or values (`true`), as staged. -/
def chunk (a : Bool) (c : Dev nD) : Chunk F :=
  match a with
  | false => iblk m c 2 (0 : Fin 1)
  | true => iblk m c 3 (0 : Fin 1)

/-! ## The schedule -/

/-- What a barrier hands over: the next device's landing slots. -/
def barPay (c : Dev nD) : sProp 𝕄 := bigSep Finset.univ fun h : Fin 7 => iprop(slotAny (nxt c) false h ∗ slotAny (nxt c) true h)

/-- What a transfer's cell hands over. -/
def xferPay (c : Dev nD) : Cl → sProp 𝕄
  | (false, a, h) => owns (c : Thread nD τ) (src a h.castSucc) fullShare.left (chunk m a (orig c h.castSucc))
  | (true, a, h) => owns (c : Thread nD τ) (slot a h) fullShare (chunk m a (orig c h.succ))

instance barPay_storable (c : Dev nD) : BI.Storable (upEmb : UEmb _ 𝕄) (barPay (F := F) c) := by unfold barPay; infer_instance
instance xferPay_storable (c : Dev nD) (k : Cl) : BI.Storable (upEmb : UEmb _ 𝕄) (xferPay m c k) := by
  rcases k with ⟨_ | _, a, h⟩ <;> unfold xferPay <;> infer_instance

def dutiesOf : Option (Option Cl) → Finset Bool
  | none => ∅
  | some none => Finset.univ
  | some (some _) => {false}

def payOf (c : Dev nD) (d : Bool) : Option (Option Cl) → sProp 𝕄
  | none => iprop(emp)
  | some none => if d then barPay c else iprop(emp)
  | some (some k) => xferPay m c k

def amountOf' : Option (Option Cl) → ℕ
  | some none => 1
  | none => N
  | some (some _) => N

theorem amountOf'_pos : ∀ o, 0 < amountOf' o
  | none => N_pos
  | some none => Nat.one_pos
  | some (some _) => N_pos

/-- One round per cell. -/
def rd : Rounds.Schedule (GSem nD τ sig) Bool 𝕄 where
  duties g r := if r = 0 ∧ g.1.2 = .tc then dutiesOf (dec g.2) else ∅
  unitless _ := False
  amount g _ _ := amountOf' (dec g.2)
  payload g _ d := payOf m g.1.1 d (dec g.2)
  amount_pos g _ _ _ := amountOf'_pos _

instance rd_payload_storable (g : GSem nD τ sig) (r : ℕ) (d : Bool) : BI.Storable (upEmb : UEmb _ 𝕄) ((rd m).payload g r d) := by
  show BI.Storable upEmb (payOf m g.1.1 d (dec g.2))
  rcases dec g.2 with _ | _ | k
  · unfold payOf; infer_instance
  · unfold payOf; dsimp only; split <;> infer_instance
  · unfold payOf; infer_instance

section Sched
variable (c : Dev nD) (k : Cl)

theorem duties_bar : (rd m).duties (cell c none) 0 = Finset.univ := by
  refine (if_pos (e := (∅ : Finset Bool)) (⟨rfl, rfl⟩ : (0 : ℕ) = 0 ∧ (c : Thread nD τ).2 = .tc)).trans ?_
  rw [dec_csem]
theorem duties_xfer : (rd m).duties (cell c (some k)) 0 = {false} := by
  refine (if_pos (e := (∅ : Finset Bool)) (⟨rfl, rfl⟩ : (0 : ℕ) = 0 ∧ (c : Thread nD τ).2 = .tc)).trans ?_
  rw [dec_csem]
theorem duties_later (g : GSem nD τ sig) : ∀ r, 1 ≤ r → (rd m).duties g r = ∅ :=
  fun r hr => if_neg fun h => by omega
theorem amount_bar (d : Bool) : (rd m).amount (cell c none) 0 d = 1 := by
  show amountOf' _ = _; rw [dec_csem]; rfl
theorem amount_xfer (d : Bool) : (rd m).amount (cell c (some k)) 0 d = N := by
  show amountOf' _ = _; rw [dec_csem]; rfl
theorem expect_bar : (rd m).expect (cell c none) 0 = 2 := by
  unfold Schedule.expect Schedule.amountOf
  rw [duties_bar, Finset.sum_congr rfl fun d _ => amount_bar m c d, Finset.sum_const, Finset.card_univ, Fintype.card_bool, smul_eq_mul]
theorem expect_xfer : (rd m).expect (cell c (some k)) 0 = N := by
  unfold Schedule.expect Schedule.amountOf; rw [duties_xfer, Finset.sum_singleton, amount_xfer]
theorem payload_bar_true : (rd m).payload (cell c none) 0 true = barPay c := by
  show payOf m c true (dec _) = _; rw [dec_csem]; rfl
theorem payload_bar_false : (rd m).payload (cell c none) 0 false = iprop(emp) := by
  show payOf m c false (dec _) = _; rw [dec_csem]; rfl
theorem payload_xfer (d : Bool) : (rd m).payload (cell c (some k)) 0 d = xferPay m c k := by
  show payOf m c d (dec _) = _; rw [dec_csem]; rfl

theorem rest_bar : bigSep ((rd m).duties (cell c none) 0 \ ∅) (fun d => (rd m).payload (cell c none) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_xfer : bigSep ((rd m).duties (cell c (some k)) 0 \ ∅) (fun d => (rd m).payload (cell c (some k)) 0 d) = xferPay m c k := by
  rw [Finset.sdiff_empty, duties_xfer, bigSep_singleton, payload_xfer]

end Sched

/-! ## What is owed at launch, and the levels -/

/-- The arrivals owed to the next device for the hops of a list, the head's on top. -/
def owe (c : Dev nD) : List (Fin 7) → CellTallies nD τ sig Unit
  | [] => 0
  | h :: l => owe c l + tallyAt (cell (nxt c) (some (true, true, h))) () N + tallyAt (cell (nxt c) (some (true, false, h))) () N

abbrev hops : List (Fin 7) := [0, 1, 2, 3, 4, 5, 6]

def O₁ (c : Dev nD) : CellTallies nD τ sig Unit := owe c hops + tallyAt (cell (nxt c) none) () 1
def O₀ (c : Dev nD) : CellTallies nD τ sig Unit := O₁ c + tallyAt (cell (prv c) none) () 1

def L (g : GSem nD τ sig) : Finset Unit := if g.1.2 = .tc then {()} else ∅

def lvOf : Option (Option Cl) → ℕ
  | some none => 1
  | some (some (true, _, h)) => 2 + h.val
  | _ => 0
/-- Barrier cells at 1, the receive cells of hop `h` at `2 + h`, everything else at 0. -/
def lv (g : GSem nD τ sig) (_ : Unit) : ℕ := lvOf (dec g.2)

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem add_pos_cases {A B : CellTallies nD τ sig Unit} {g : GSem nD τ sig} {u : Unit} (h : 0 < (A + B) g u) : 0 < A g u ∨ 0 < B g u := by
  rw [Pi.add_apply, Finsupp.add_apply] at h
  omega

theorem owe_pos {c : Dev nD} {l : List (Fin 7)} {g : GSem nD τ sig} {u : Unit} (h : 0 < owe c l g u) :
    ∃ a, ∃ j ∈ l, g = cell (nxt c) (some (true, a, j)) := by
  induction l with
  | nil => exact absurd h (Nat.lt_irrefl 0)
  | cons j l ih =>
    rcases add_pos_cases h with h | h
    · rcases add_pos_cases h with h | h
      · obtain ⟨a, i, hi, e⟩ := ih h
        exact ⟨a, i, List.mem_cons_of_mem _ hi, e⟩
      · exact ⟨true, j, List.mem_cons_self, tally_pos h⟩
    · exact ⟨false, j, List.mem_cons_self, tally_pos h⟩

/-- A device may wait at a cell ranked below everything it owes. -/
theorem mayWait_of (c : Dev nD) (sm : SemLoc sig) (O : CellTallies nD τ sig Unit) (b : ℕ) (hs : lvOf (dec sm) ≤ b)
    (hO : ∀ g u, 0 < O g u → g.1.2 = .tc ∧ b < lvOf (dec g.2)) : (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-- Waiting at a cell ranked at most `b` while owing the arrivals of hops whose receive cells rank above `b`. -/
theorem mayWait_owe (c : Dev nD) (sm : SemLoc sig) (l : List (Fin 7)) (b : ℕ) (hs : lvOf (dec sm) ≤ b)
    (hl : ∀ j ∈ l, b < 2 + j.val) : (levAts L lv : sProp 𝕄) ⊢ MayWait (c : Thread nD τ) sm () (owe c l) :=
  mayWait_of c sm _ b hs fun g u hg => by
    obtain ⟨a, j, hj, rfl⟩ := owe_pos hg
    refine ⟨rfl, ?_⟩
    rw [dec_csem]
    exact hl j hj

/-! ## The ghost state -/

/-- The cells' invariants, under the names the launch allocated them at, and that every cell is at its round 0. -/
def records (K : Dev nD × Option Cl → ℕ) : sProp 𝕄 :=
  iprop((bigSep Finset.univ fun ck : Dev nD × Option Cl => cellInv ER (rd m) (K ck) (cell ck.1 ck.2))
    ∗ bigSep Finset.univ fun ck : Dev nD × Option Cl => reached ER (cell ck.1 ck.2) 0)

instance records_persistent (K : Dev nD × Option Cl → ℕ) : BI.Persistent (records m K) := by unfold records; infer_instance

theorem inv_at (K : Dev nD × Option Cl → ℕ) (c : Dev nD) (k : Option Cl) : records m K ⊢ cellInv ER (rd m) (K (c, k)) (cell c k) := by
  have h : (bigSep Finset.univ fun ck : Dev nD × Option Cl => (cellInv ER (rd m) (K ck) (cell ck.1 ck.2) : sProp 𝕄))
      ⊢ (cellInv ER (rd m) (K (c, k)) (cell c k) : sProp 𝕄) := bigSep_elim (Finset.mem_univ (c, k))
  unfold records
  iintro ⟨H, -⟩
  iapply h
  iexact H
theorem reached_at (K : Dev nD × Option Cl → ℕ) (c : Dev nD) (k : Option Cl) : records m K ⊢ reached ER (cell c k) 0 := by
  have h : (bigSep Finset.univ fun ck : Dev nD × Option Cl => (reached ER (cell ck.1 ck.2) 0 : sProp 𝕄))
      ⊢ (reached ER (cell c k) 0 : sProp 𝕄) := bigSep_elim (Finset.mem_univ (c, k))
  unfold records
  iintro ⟨-, H⟩
  iapply h
  iexact H

/-- What device `c` holds for one transfer: its positions at its two cells, the two duties it pays, the credit of its
    arrival. -/
def todo (c : Dev nD) (a : Bool) (h : Fin 7) : sProp 𝕄 :=
  iprop((atPos ER (cell c (some (false, a, h))) 0 ∅ 0 ∗ atPos ER (cell c (some (true, a, h))) 0 ∅ 0)
    ∗ (dutyTok ER (cell c (some (false, a, h))) 0 false ∗ dutyTok ER (cell (nxt c) (some (true, a, h))) 0 false)
    ∗ cred (tallyAt (cell c (some (true, a, h))) () N))

/-- What a finished transfer leaves: its source held outright again, its two cells closed. -/
def done (c : Dev nD) (a : Bool) (h : Fin 7) : sProp 𝕄 :=
  iprop(owns (c : Thread nD τ) (src a h.castSucc) fullShare (chunk m a (orig c h.castSucc))
    ∗ semVal (cell c (some (false, a, h))) 0 ∗ semVal (cell c (some (true, a, h))) 0)

def start (K : Dev nD × Option Cl → ℕ) (c : Dev nD) : sProp 𝕄 :=
  iprop(records m K ∗ levAts L lv
    ∗ atPos ER (cell c none) 0 ∅ 0 ∗ dutyTok ER (cell (nxt c) none) 0 false ∗ dutyTok ER (cell (prv c) none) 0 true
    ∗ cred (tallyAt (cell c none) () 2)
    ∗ bigSep Finset.univ fun h : Fin 7 => iprop(todo c false h ∗ todo c true h))

end Cert.Attn

end
-- ==== Proof.Hop.lean ====
module

public import proofs.«01_k».proof.Proof.Protocol

@[expose] public section

noncomputable section

/-!
# One hop

What each effect of a hop does to the device's resources, and the hop as a whole, at a symbolic device and hop.
-/

namespace Cert.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a piece of device `c`'s program. -/
abbrev wpc (c : Dev nD) {α : Type} (p : P F α) (Q : α → sProp 𝕄) : sProp 𝕄 :=
  wp frame (wpE (defs₀ (F := F)) 𝒱₀ (c : Thread nD τ) none) Set.univ p Q

/-- A hop's load returns the batch entry of the chunk the hop meets. -/
theorem ld_spec (c : Dev nD) (a : Bool) (b : Fin 2) (h : Fin 8) (q : PosShare TreeShare) (X : Chunk F) {Q : FVec F S512x512 .f32 → sProp 𝕄} :
    owns (c : Thread nD τ) (src a h) q X ⊢ iprop((owns (c : Thread nD τ) (src a h) q X -∗ Q (rowOf X b)) -∗ wpc c (ld a b h) Q) := by
  obtain ⟨h, hh⟩ := h
  rcases h with _ | h
  · show owns (c : Thread nD τ) (own a) q X ⊢ iprop((owns (c : Thread nD τ) (own a) q X -∗ Q (rowOf X b)) -∗ wpc c (ld a b ⟨0, hh⟩) Q)
    unfold ld owns
    simp only [Prog.lift, Prog.bind_op, Prog.bind_ret, Prog.pure_eq_ret]
    iintro ⟨%f, %hf, H⟩ Hk
    iapply (wp_load 𝒱₀ (c : Thread nD τ) none Set.univ (m := own a) (View.setOn_subset_set _ _)) $$ H
    iintro H
    rw [flat0_read (own a) b f, hf, wp_ret]
    imodintro
    iapply Hk
    iexists f
    isplitr; · ipureintro; exact hf
    iexact H
  · have h7 : h < 7 := Nat.lt_of_succ_lt_succ hh
    show owns (c : Thread nD τ) (slot a ⟨h, h7⟩) q X ⊢ iprop((owns (c : Thread nD τ) (slot a ⟨h, h7⟩) q X -∗ Q (rowOf X b)) -∗ wpc c (ld a b ⟨h + 1, hh⟩) Q)
    unfold ld owns
    simp only [Prog.lift, Prog.bind_op, Prog.bind_ret, Prog.pure_eq_ret]
    iintro ⟨%f, %hf, H⟩ Hk
    iapply (wp_load 𝒱₀ (c : Thread nD τ) none Set.univ (m := gath a) (row_in_slot a ⟨h, h7⟩ b)) $$ H
    iintro H
    rw [flat1_read a ⟨h, h7⟩ b f, hf, wp_ret]
    imodintro
    iapply Hk
    iexists f
    isplitr; · ipureintro; exact hf
    iexact H

variable (K : Dev nD × Option Cl → ℕ)

/-- The half of the source a transfer takes is what its send cell hands back. -/
theorem leave (c : Dev nD) (a : Bool) (h : Fin 7) (f : Buf (Elt F) ((src a h.castSucc).view.loc (c : Thread nD τ)))
    (hf : (src a h.castSucc).view.read (Elt F) f = chunk m a (orig c h.castSucc)) :
    ((src a h.castSucc).view.loc (c : Thread nD τ) ↦[(src a h.castSucc).view.set]{fullShare.left} f : sProp 𝕄)
      ⊢ (rd m).payload ((c : Thread nD τ), SemLoc.dma (dsem (false, a, h))) 0 false := by
  refine BI.Entails.trans ?_ (Entails.of_eq (payload_xfer m c (false, a, h) false).symm)
  show _ ⊢ owns (c : Thread nD τ) (src a h.castSucc) fullShare.left (chunk m a (orig c h.castSucc))
  unfold owns
  iintro H; iexists f
  isplitr; · ipureintro; exact hf
  iexact H

/-- A slot rewritten with the chunk a device holds at hop `h` is what the next device's receive cell hands over. -/
theorem land (c : Dev nD) (a : Bool) (h : Fin 7) (X : Chunk F) (g : Buf (Elt F) ((slot a h).view.loc (nxt c : Thread nD τ)))
    (hX : X = chunk m a (orig c h.castSucc)) :
    ((slot a h).view.loc (nxt c : Thread nD τ) ↦[(slot a h).view.set]{fullShare} (slot a h).view.write (Elt F) g X Finset.univ : sProp 𝕄)
      ⊢ (rd m).payload ((nxt c : Thread nD τ), SemLoc.dma (dsem (true, a, h))) 0 false := by
  refine BI.Entails.trans ?_ (Entails.of_eq (payload_xfer m (nxt c) (true, a, h) false).symm)
  show _ ⊢ owns (nxt c : Thread nD τ) (slot a h) fullShare (chunk m a (orig (nxt c) h.succ))
  have e : (slot a h).view.read (Elt F) ((slot a h).view.write (Elt F) g X Finset.univ) = chunk m a (orig (nxt c) h.succ) :=
    (View.read_write_univ _ _).trans (hX.trans (congrArg (chunk m a) (orig_nxt c h).symm))
  generalize (slot a h).view.write (Elt F) g X Finset.univ = g' at e ⊢
  unfold owns
  iintro H; iexists g'
  isplitr; · ipureintro; exact e
  iexact H

/-- A transfer to the next device: it takes half of the source and the next device's slot, and pays one arrival owed. -/
theorem send_spec (c n : Dev nD) (hn : n = nxt c) (a : Bool) (h : Fin 7) (O : CellTallies nD τ sig Unit) (W : Waits sig Unit) {Q : PUnit → sProp 𝕄} :
    iprop(records m K ∗ owns (c : Thread nD τ) (src a h.castSucc) fullShare.left (chunk m a (orig c h.castSucc)) ∗ slotAny (nxt c) a h
        ∗ owes (c : Thread nD τ) (O + tallyAt (cell (nxt c) (some (true, a, h))) () N) W
        ∗ dutyTok ER (cell c (some (false, a, h))) 0 false ∗ dutyTok ER (cell (nxt c) (some (true, a, h))) 0 false)
      ⊢ iprop(((cred (tallyAt (cell c (some (false, a, h))) () N) ∗ owes (c : Thread nD τ) O W) -∗ Q ⟨⟩) -∗ wpc c (send a n h) Q) := by
  subst hn
  unfold send slotAny
  have hs : (owns (c : Thread nD τ) (src a h.castSucc) fullShare.left (chunk m a (orig c h.castSucc)) : sProp 𝕄)
      = iprop(∃ f : Buf (Elt F) ((src a h.castSucc).view.loc (c : Thread nD τ)), ⌜(src a h.castSucc).view.read (Elt F) f = chunk m a (orig c h.castSucc)⌝
        ∗ ((src a h.castSucc).view.loc (c : Thread nD τ) ↦[(src a h.castSucc).view.set]{fullShare.left} f)) := rfl
  rw [hs]
  iintro ⟨#HR, ⟨%f, %hf, Hs⟩, ⟨%X, Hd⟩, HO, Ht1, Ht2⟩ Hk
  unfold owns
  icases Hd with ⟨%g, -, Hd⟩
  ihave HI1 := (inv_at m K c (some (false, a, h))) $$ HR
  ihave HI2 := (inv_at m K (nxt c) (some (true, a, h))) $$ HR
  ihave Hr1 := (reached_at m K c (some (false, a, h))) $$ HR
  ihave Hr2 := (reached_at m K (nxt c) (some (true, a, h))) $$ HR
  simp only [Prog.lift]
  iapply (Rounds.wp_send_pointsTo 𝒱₀ ER (rd m) (c : Thread nD τ) none (κ₁ := K (c, some (false, a, h))) (κ₂ := K (nxt c, some (true, a, h)))
    (c' := (nxt c : Thread nD τ)) (src := src a h.castSucc) (dst := slot a h) (sS := .dma (dsem (false, a, h))) (sem := .dma (dsem (true, a, h)))
    (r₁ := 0) (r₂ := 0) (d₁ := false) (d₂ := false) (fs := f) (fd := g) (q := fullShare.left) (O₀ := O + tallyAt (cell (nxt c) (some (true, a, h))) () N)
    ((Finset.ext_iff.mp (duties_xfer m c (false, a, h)) false).mpr (Finset.mem_singleton_self _))
    ((Finset.ext_iff.mp (duties_xfer m (nxt c) (true, a, h)) false).mpr (Finset.mem_singleton_self _))
    () () N ((View.amount_dma _ _).trans (N_slot a h)) (amount_xfer m c (false, a, h) false) (amount_xfer m (nxt c) (true, a, h) false) O rfl (W := W)
    (leave m c a h f hf) (land m c a h _ g hf)) $$ [HI1 HI2 Hr1 Hr2 Hs Hd HO Ht1 Ht2]
  · isplitl [HI1]; · iexact HI1
    isplitl [HI2]; · iexact HI2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro H
  rw [wp_ret]
  imodintro
  iapply Hk; iexact H

/-- Waiting for one of the device's transfer cells: what the cell hands over, and the cell closed. -/
theorem wait_spec (c : Dev nD) (k : Cl) (O : CellTallies nD τ sig Unit) (W : Waits sig Unit)
    (M M' : Memref sig .tc .vmem S2x512x8x64 .f32) (h1 : M.view.WordExact) (h2 : M'.view.WordExact) (hN : M'.view.dmaCredit = N)
    (hO : (levAts L lv : sProp 𝕄) ⊢ MayWait (c : Thread nD τ) (.dma (dsem k)) () O) {Q : PUnit → sProp 𝕄} :
    iprop(records m K ∗ levAts L lv ∗ cred (tallyAt (cell c (some k)) () N) ∗ owes (c : Thread nD τ) O W ∗ atPos ER (cell c (some k)) 0 ∅ 0)
      ⊢ iprop(((∃ W', owes (c : Thread nD τ) O W') ∗ semVal (cell c (some k)) 0 ∗ xferPay m c k -∗ Q ⟨⟩)
        -∗ wpc c (Prog.lift (.waitDma2 (dsem k) M M' h1 h2)) Q) := by
  iintro ⟨#HR, #Hlev, Hc, HO, Hat⟩ Hk
  ihave #HI := (inv_at m K c (some k)) $$ HR
  simp only [Prog.lift]
  iapply (Rounds.wp_wait_rest_token 𝒱₀ ER (rd m) (c : Thread nD τ) none (κ := K (c, some k)) (sm := .dma (dsem k)) (k' := M'.view.dmaCredit)
      (wpE_waitDma2_eq 𝒱₀ (c : Thread nD τ) none Set.univ) (Set.mem_univ _) () (O := O) (W := W) (R := 0) (m := 0) (T := ∅)
      (by rw [Nat.zero_add, hN]; exact (expect_xfer m c k).symm)) $$ [Hc HO Hat]
  · isplitr; · iexact HI
    isplitl [Hc]; · rw [hN]; iexact Hc
    isplitl [HO]; · iexact HO
    isplitr; · iapply hO; iexact Hlev
    iexact Hat
  iintro ⟨HO, Hat, -, Hpay⟩
  ihave Hp := (Entails.of_eq (show bigSep ((rd m).duties ((c : Thread nD τ), SemLoc.dma (dsem k)) 0 \ ∅) (fun d => (rd m).payload ((c : Thread nD τ), SemLoc.dma (dsem k)) 0 d)
    = xferPay m c k from rest_xfer m c k)) $$ Hpay
  imod (Rounds.cell_close ER (rd m) (Set.mem_univ (K (c, some k))) (fun h => h) (R := 0 + 1) (duties_later m (cell c (some k)))) $$ [Hat] with Hz
  · isplitr; · iexact HI
    iexact Hat
  rw [wp_ret]
  imodintro
  iapply Hk
  isplitl [HO]; · iexists _; iexact HO
  isplitl [Hz]; · iexact Hz
  iexact Hp

/-! ## The hop -/

/-- The two batch entries of a chunk. -/
def rows (X : Chunk F) : Fin 2 → FVec F S512x512 .f32 := ![rowOf X 0, rowOf X 1]

/-- The accumulators after the hop `h` of device `c`. -/
def stepAt (c : Dev nD) (q : Fin 2 → FVec F S512x512 .f32) (h : Fin 8) (s : St F) : St F :=
  s.step (maskOf c h) q (rows (chunk m false (orig c h))) (rows (chunk m true (orig c h)))

theorem src_succ (a : Bool) (h : Fin 7) : src a h.succ = slot a h := by obtain ⟨h, hh⟩ := h; rfl

theorem xferPay_send (c : Dev nD) (a : Bool) (h : Fin 7) :
    xferPay m c (false, a, h) = owns (c : Thread nD τ) (src a h.castSucc) fullShare.left (chunk m a (orig c h.castSucc)) := rfl
theorem xferPay_recv (c : Dev nD) (a : Bool) (h : Fin 7) :
    xferPay m c (true, a, h) = owns (c : Thread nD τ) (src a h.succ) fullShare (chunk m a (orig c h.succ)) := by
  rw [src_succ]; rfl

theorem attend_spec (c : Dev nD) (q : Fin 2 → FVec F S512x512 .f32) (h : Fin 8) (s : St F) (sh : PosShare TreeShare) {Q : St F → sProp 𝕄} :
    iprop(owns (c : Thread nD τ) (src false h) sh (chunk m false (orig c h)) ∗ owns (c : Thread nD τ) (src true h) sh (chunk m true (orig c h)))
      ⊢ iprop((owns (c : Thread nD τ) (src false h) sh (chunk m false (orig c h)) ∗ owns (c : Thread nD τ) (src true h) sh (chunk m true (orig c h))
          -∗ Q (stepAt m c q h s)) -∗ wpc c (attend c q h s) Q) := by
  unfold attend wpc stepAt rows
  simp only [wp_bind_eq]
  iintro ⟨HK, HV⟩ Hk
  iapply (ld_spec c false 0 h sh _) $$ HK
  iintro HK
  iapply (ld_spec c true 0 h sh _) $$ HV
  iintro HV
  iapply (ld_spec c false 1 h sh _) $$ HK
  iintro HK
  iapply (ld_spec c true 1 h sh _) $$ HV
  iintro HV
  simp only [Prog.pure_eq_ret, wp_ret]
  imodintro
  iapply Hk
  isplitl [HK]; · iexact HK
  iexact HV

theorem mayWait_send (c : Dev nD) (a : Bool) (h : Fin 7) (l : List (Fin 7)) :
    (levAts L lv : sProp 𝕄) ⊢ MayWait (c : Thread nD τ) (.dma (dsem (false, a, h))) () (owe c l) :=
  mayWait_owe c _ l 0 (le_of_eq (congrArg lvOf (dec_csem (some (false, a, h))))) fun j _ => by omega

theorem mayWait_recv (c : Dev nD) (a : Bool) (h : Fin 7) (l : List (Fin 7)) (hl : ∀ j ∈ l, h < j) :
    (levAts L lv : sProp 𝕄) ⊢ MayWait (c : Thread nD τ) (.dma (dsem (true, a, h))) () (owe c l) :=
  mayWait_owe c _ l (2 + h.val) (le_of_eq (congrArg lvOf (dec_csem (some (true, a, h))))) fun j hj => by
    have := hl j hj
    have : h.val < j.val := this
    omega

/-- Hop `h`: the chunk at hand is passed on and attended to, the next one arrives. -/
theorem hop_spec (c n n' : Dev nD) (hn : n = nxt c) (hn' : n' = nxt c) (q : Fin 2 → FVec F S512x512 .f32) (h : Fin 7) (s : St F)
    (l : List (Fin 7)) (hl : ∀ j ∈ l, h < j) {Q : St F → sProp 𝕄} :
    iprop(records m K ∗ levAts L lv ∗ (∃ W, owes (c : Thread nD τ) (owe c (h :: l)) W)
        ∗ (slotAny (nxt c) false h ∗ slotAny (nxt c) true h) ∗ (todo c false h ∗ todo c true h)
        ∗ owns (c : Thread nD τ) (src false h.castSucc) fullShare (chunk m false (orig c h.castSucc))
        ∗ owns (c : Thread nD τ) (src true h.castSucc) fullShare (chunk m true (orig c h.castSucc)))
      ⊢ iprop(((∃ W, owes (c : Thread nD τ) (owe c l) W) ∗ (done m c false h ∗ done m c true h)
            ∗ owns (c : Thread nD τ) (src false h.succ) fullShare (chunk m false (orig c h.succ))
            ∗ owns (c : Thread nD τ) (src true h.succ) fullShare (chunk m true (orig c h.succ))
            -∗ Q (stepAt m c q h.castSucc s))
          -∗ wpc c (hop n n' c q h s) Q) := by
  unfold hop wpc waitSend waitRecv
  simp only [wp_bind_eq]
  unfold todo
  iintro ⟨#HR, #Hlev, ⟨%W, HO⟩, ⟨HsK, HsV⟩, ⟨⟨⟨HaK, HbK⟩, ⟨HtK, HuK⟩, HcK⟩, ⟨⟨HaV, HbV⟩, ⟨HtV, HuV⟩, HcV⟩⟩, HK, HV⟩ Hk
  ihave HK := (owns_halves c (src false h.castSucc) _) $$ HK
  icases HK with ⟨HKl, HKr⟩
  ihave HV := (owns_halves c (src true h.castSucc) _) $$ HV
  icases HV with ⟨HVl, HVr⟩
  iapply (send_spec m K c n hn false h (owe c l + tallyAt (cell (nxt c) (some (true, true, h))) () N) W) $$ [HKl HsK HO HtK HuK]
  · isplitr; · iexact HR
    isplitl [HKl]; · iexact HKl
    isplitl [HsK]; · iexact HsK
    isplitl [HO]; · iexact HO
    isplitl [HtK]; · iexact HtK
    iexact HuK
  iintro ⟨HdK, HO⟩
  iapply (send_spec m K c n' hn' true h (owe c l) W) $$ [HVl HsV HO HtV HuV]
  · isplitr; · iexact HR
    isplitl [HVl]; · iexact HVl
    isplitl [HsV]; · iexact HsV
    isplitl [HO]; · iexact HO
    isplitl [HtV]; · iexact HtV
    iexact HuV
  iintro ⟨HdV, HO⟩
  iapply (attend_spec m c q h.castSucc s fullShare.right) $$ [HKr HVr]
  · isplitl [HKr]; · iexact HKr
    iexact HVr
  iintro ⟨HKr, HVr⟩
  iapply (wait_spec m K c (false, false, h) (owe c l) W (slot false h) (src false h.castSucc) (wx_slot _ _) (wx_src _ _) (N_src _ _) (mayWait_send c false h l)) $$ [HdK HO HaK]
  · isplitr; · iexact HR
    isplitr; · iexact Hlev
    isplitl [HdK]; · iexact HdK
    isplitl [HO]; · iexact HO
    iexact HaK
  iintro ⟨⟨%W1, HO⟩, HzK, HKl⟩
  iapply (wait_spec m K c (true, false, h) (owe c l) W1 (src false h.castSucc) (slot false h) (wx_src _ _) (wx_slot _ _) (N_slot _ _) (mayWait_recv c false h l hl)) $$ [HcK HO HbK]
  · isplitr; · iexact HR
    isplitr; · iexact Hlev
    isplitl [HcK]; · iexact HcK
    isplitl [HO]; · iexact HO
    iexact HbK
  iintro ⟨⟨%W2, HO⟩, HyK, HnK⟩
  iapply (wait_spec m K c (false, true, h) (owe c l) W2 (slot true h) (src true h.castSucc) (wx_slot _ _) (wx_src _ _) (N_src _ _) (mayWait_send c true h l)) $$ [HdV HO HaV]
  · isplitr; · iexact HR
    isplitr; · iexact Hlev
    isplitl [HdV]; · iexact HdV
    isplitl [HO]; · iexact HO
    iexact HaV
  iintro ⟨⟨%W3, HO⟩, HzV, HVl⟩
  iapply (wait_spec m K c (true, true, h) (owe c l) W3 (src true h.castSucc) (slot true h) (wx_src _ _) (wx_slot _ _) (N_slot _ _) (mayWait_recv c true h l hl)) $$ [HcV HO HbV]
  · isplitr; · iexact HR
    isplitr; · iexact Hlev
    isplitl [HcV]; · iexact HcV
    isplitl [HO]; · iexact HO
    iexact HbV
  iintro ⟨HO, HyV, HnV⟩
  simp only [Prog.pure_eq_ret, wp_ret]
  imodintro
  ihave HnK := (Entails.of_eq (xferPay_recv m c false h)) $$ HnK
  ihave HnV := (Entails.of_eq (xferPay_recv m c true h)) $$ HnV
  ihave HKl := (Entails.of_eq (xferPay_send m c false h)) $$ HKl
  ihave HVl := (Entails.of_eq (xferPay_send m c true h)) $$ HVl
  iapply Hk
  isplitl [HO]; · iexact HO
  isplitl [HKl HKr HzK HyK HVl HVr HzV HyV]
  · unfold done
    isplitl [HKl HKr HzK HyK]
    · isplitl [HKl HKr]
      · iapply (owns_of_halves c (src false h.castSucc) _)
        isplitl [HKl]; · iexact HKl
        iexact HKr
      isplitl [HzK]; · iexact HzK
      iexact HyK
    · isplitl [HVl HVr]
      · iapply (owns_of_halves c (src true h.castSucc) _)
        isplitl [HVl]; · iexact HVl
        iexact HVr
      isplitl [HzV]; · iexact HzV
      iexact HyV
  isplitl [HnK]; · iexact HnK
  iexact HnV

end Cert.Attn

end
-- ==== Proof.Body.lean ====
module

public import proofs.«01_k».proof.Proof.Hop

@[expose] public section

noncomputable section

/-!
# The kernel's body on one device

From the ghost state the launch deals a device to the result it leaves in its output block.
-/

namespace Cert.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The result -/

/-- One batch entry of a block of `x`. -/
def rowX (X : Vec F S2x512x768 .f32) (b : Fin 2) : Vec F S1x512x768 .f32 := fun i => X (ix3 b (i 1) (i 2))

def xAt (c : Dev nD) : Vec F S2x512x768 .f32 := iblk m c 0 t0_0
def wqAt (c : Dev nD) : Vec F S768x512 .f32 := iblk m c 1 t0_0
def woAt (c : Dev nD) : Vec F S512x768 .f32 := iblk m c 4 t0_0

def qAt (c : Dev nD) : Fin 2 → FVec F S512x512 .f32 := ![qOf (rowX (xAt m c) 0) (wqAt m c), qOf (rowX (xAt m c) 1) (wqAt m c)]

/-- The accumulators after all eight hops. -/
def finalSt (c : Dev nD) (q : Fin 2 → FVec F S512x512 .f32) : St F :=
  stepAt m c q 7 (stepAt m c q 6 (stepAt m c q 5 (stepAt m c q 4 (stepAt m c q 3 (stepAt m c q 2 (stepAt m c q 1 (stepAt m c q 0 St.zero)))))))

/-- The block of the result device `c` computes. -/
def outAt (c : Dev nD) : Vec F S2x512x768 .f32 := fun i => outOf (finalSt m c (qAt m c)) (i 0) (woAt m c) (ix3 (0 : Fin 1) (i 1) (i 2))

/-! ## Loads and stores of whole buffers and of batch entries -/

abbrev rowR (b : Fin 2) : Rect S2x512x768 := Rect.unit (s := S2x512x768) ![b.val, 0, 0] S1x512x768.size (inb_out b)

theorem rowR_emb (b : Fin 2) (j : S1x512x768.Idx) : (rowR b).emb j = ix3 b (j 1) (j 2) := by
  have h0 : (j 0).val = 0 := Nat.lt_one_iff.mp (j 0).isLt
  funext x
  refine Fin.ext ?_
  fin_cases x
  · show b.val + 1 * (j 0).val = b.val; rw [h0]; rfl
  all_goals exact (Nat.zero_add _).trans (Nat.one_mul _)

theorem readX (b : Fin 2) (f : Vec F S2x512x768 .f32) : xM.view.readAt (Elt F) (rowR b).toLoadRect f = rowX f b := by
  funext i
  exact congrArg f (rowR_emb b i)

theorem hz2 : (![0, 0] : Fin 2 → Nat) = fun _ => 0 := funext fun a => by fin_cases a <;> rfl
theorem readWq (f : Vec F S768x512 .f32) :
    wqM.view.readAt (Elt F) (Rect.unit (s := S768x512) ![0, 0] S768x512.size inb_S768x512_S768x512_0_0).toLoadRect f = f :=
  Memref.readAt_unit_zero (Elt F) cc0_stg1_0 hz2 _ f
theorem readWo (f : Vec F S512x768 .f32) :
    woM.view.readAt (Elt F) (Rect.unit (s := S512x768) ![0, 0] S512x768.size inb_S512x768_S512x768_0_0).toLoadRect f = f :=
  Memref.readAt_unit_zero (Elt F) cc0_stg4_0 hz2 _ f

/-- Storing the two batch entries leaves exactly them. -/
theorem store_rows (f : Vec F S2x512x768 .f32) (v : Fin 2 → FVec F S1x512x768 .f32) :
    (oM.access (rowR 1) : View sig .tc _ _ _).write (Elt F) ((oM.access (rowR 0) : View sig .tc _ _ _).write (Elt F) f (v 0) Finset.univ) (v 1) Finset.univ
      = fun i : S2x512x768.Idx => v (i 0) (ix3 (0 : Fin 1) (i 1) (i 2)) := by
  have he (b : Fin 2) (i : S2x512x768.Idx) (hi : i 0 = b) : (oM.access (rowR b) : View sig .tc _ _ _).emb (ix3 (0 : Fin 1) (i 1) (i 2)) = i :=
    ((rowR_emb b _).trans (by rw [← hi]; rfl)).trans (eq_ix3 i).symm
  have hw (b : Fin 2) (i : S2x512x768.Idx) (hi : i 0 = b) (g : Vec F S2x512x768 .f32) (w : FVec F S1x512x768 .f32) :
      (oM.access (rowR b) : View sig .tc _ _ _).write (Elt F) g w Finset.univ i = w (ix3 (0 : Fin 1) (i 1) (i 2)) := by
    have := View.write_emb_of_mem (v := (oM.access (rowR b) : View sig .tc _ _ _)) (Val := Elt F) g w (Finset.mem_univ (ix3 (0 : Fin 1) (i 1) (i 2)))
    exact (congrArg ((oM.access (rowR b) : View sig .tc _ _ _).write (Elt F) g w Finset.univ) (he b i hi)).symm.trans this
  refine funext fun (i : S2x512x768.Idx) => ?_
  rcases (show ∀ b : Fin 2, b = 0 ∨ b = 1 by decide) (i 0) with h | h
  · refine (View.write_of_not_mem _ _ _ ?_).trans ((hw 0 i h f (v 0)).trans (congrArg (fun b => v b (ix3 (0 : Fin 1) (i 1) (i 2))) h.symm))
    intro hm
    obtain ⟨j, -, e⟩ := Finset.mem_map.mp hm
    have e' : ix3 (1 : Fin 2) (j 1) (j 2) = i := (rowR_emb 1 j).symm.trans e
    have h1 : (1 : Fin 2) = i 0 := congrFun e' 0
    rw [h] at h1
    exact absurd h1 (by decide)
  · exact (hw 1 i h _ (v 1)).trans (congrArg (fun b => v b (ix3 (0 : Fin 1) (i 1) (i 2))) h.symm)

/-! ## What the device holds before and after -/

def cells0 (c : Dev nD) (h : Fin 7) : sProp 𝕄 :=
  iprop((semVal (cell c (some (false, false, h))) 0 ∗ semVal (cell c (some (true, false, h))) 0)
    ∗ (semVal (cell c (some (false, true, h))) 0 ∗ semVal (cell c (some (true, true, h))) 0))

def Φ₀ (c : Dev nD) : sProp 𝕄 :=
  iprop((∃ K, start m K c) ∗ (∃ X, owns (c : Thread nD τ) (gath false) fullShare X) ∗ (∃ X, owns (c : Thread nD τ) (gath true) fullShare X))
def Φ₁ (c : Dev nD) : sProp 𝕄 :=
  iprop(((∃ X, owns (c : Thread nD τ) (gath false) fullShare X) ∗ (∃ X, owns (c : Thread nD τ) (gath true) fullShare X))
    ∗ semVal (cell c none) 0 ∗ bigSep Finset.univ fun h : Fin 7 => cells0 c h)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem slotAny_src (c : Dev nD) (a : Bool) (h : Fin 7) (X : Chunk F) :
    (owns (c : Thread nD τ) (src a h.succ) fullShare X : sProp 𝕄) ⊢ slotAny c a h := by
  rw [src_succ]; unfold slotAny; iintro H; iexists X; iexact H

/-- After the last hop the buffers a device passed on are its own chunk and six slots; with the last slot they are its
    chunk and the whole gathered buffer. -/
theorem slots_back (c : Dev nD) (a : Bool) :
    iprop((bigSep Finset.univ fun h : Fin 7 => owns (c : Thread nD τ) (src a h.castSucc) fullShare (chunk m a (orig c h.castSucc)))
        ∗ owns (c : Thread nD τ) (src a (6 : Fin 7).succ) fullShare (chunk m a (orig c (6 : Fin 7).succ)))
      ⊢ iprop(owns (c : Thread nD τ) (own a) fullShare (chunk m a c) ∗ ∃ X, (owns (c : Thread nD τ) (gath a) fullShare X : sProp 𝕄)) := by
  rw [bigSep_fin7]
  iintro ⟨⟨H0, H1, H2, H3, H4, H5, H6⟩, H7⟩
  isplitl [H0]
  · have e : (owns (c : Thread nD τ) (src a (0 : Fin 7).castSucc) fullShare (chunk m a (orig c (0 : Fin 7).castSucc)) : sProp 𝕄)
        = owns (c : Thread nD τ) (own a) fullShare (chunk m a c) :=
      congrArg (fun d => (owns (c : Thread nD τ) (own a) fullShare (chunk m a d) : sProp 𝕄)) (orig_zero c)
    ihave H0 := (Entails.of_eq e) $$ H0
    iexact H0
  iapply (slots_join c a)
  rw [bigSep_fin7]
  isplitl [H1]; · iapply (slotAny_src c a 0 (chunk m a (orig c 1))); iexact H1
  isplitl [H2]; · iapply (slotAny_src c a 1 (chunk m a (orig c 2))); iexact H2
  isplitl [H3]; · iapply (slotAny_src c a 2 (chunk m a (orig c 3))); iexact H3
  isplitl [H4]; · iapply (slotAny_src c a 3 (chunk m a (orig c 4))); iexact H4
  isplitl [H5]; · iapply (slotAny_src c a 4 (chunk m a (orig c 5))); iexact H5
  isplitl [H6]; · iapply (slotAny_src c a 5 (chunk m a (orig c 6))); iexact H6
  iapply (slotAny_src c a 6 (chunk m a (orig c (6 : Fin 7).succ))); iexact H7

/-! ## The body -/

abbrev Cfg0 := cfg0

def dats (_ : Fin 1) (c : Dev nD) : Pipeline.Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What the body leaves of device `c`'s staging buffers. -/
def staged (c : Dev nD) (out : Vec F S2x512x768 .f32) : sProp 𝕄 :=
  iprop((((c : Thread nD τ).loc cc0_stg0_0) ↦{fullShare} (xAt m c)) ∗ (((c : Thread nD τ).loc cc0_stg1_0) ↦{fullShare} (wqAt m c))
    ∗ owns (c : Thread nD τ) (own false) fullShare (chunk m false c) ∗ owns (c : Thread nD τ) (own true) fullShare (chunk m true c)
    ∗ (((c : Thread nD τ).loc cc0_stg4_0) ↦{fullShare} (woAt m c)) ∗ (((c : Thread nD τ).loc cc0_stg5_0) ↦{fullShare} out))

/-- The barrier: `c`'s slots go to the device before it, those of the device after it come. -/
theorem front_spec (K : Dev nD × Option Cl → ℕ) (c : Dev nD) (W : Waits sig Unit) {Q : Dev nD × (Fin 2 → FVec F S512x512 .f32) → sProp 𝕄} :
    iprop(records m K ∗ levAts L lv ∗ owes (c : Thread nD τ) (O₀ c) W
        ∗ atPos ER (cell c none) 0 ∅ 0 ∗ dutyTok ER (cell (nxt c) none) 0 false ∗ dutyTok ER (cell (prv c) none) 0 true
        ∗ cred (tallyAt (cell c none) () 2)
        ∗ (bigSep Finset.univ fun h : Fin 7 => iprop(slotAny c false h ∗ slotAny c true h))
        ∗ (((c : Thread nD τ).loc cc0_stg0_0) ↦{fullShare} (xAt m c)) ∗ (((c : Thread nD τ).loc cc0_stg1_0) ↦{fullShare} (wqAt m c)))
      ⊢ iprop(((∃ W', owes (c : Thread nD τ) (owe c hops) W') ∗ semVal (cell c none) 0
            ∗ (bigSep Finset.univ fun h : Fin 7 => iprop(slotAny (nxt c) false h ∗ slotAny (nxt c) true h))
            ∗ (((c : Thread nD τ).loc cc0_stg0_0) ↦{fullShare} (xAt m c)) ∗ (((c : Thread nD τ).loc cc0_stg1_0) ↦{fullShare} (wqAt m c))
            -∗ Q (c, qAt m c))
          -∗ wpc c front Q) := by
  unfold front wpc ldX ldWq
  simp only [semSignalWord, semWaitWord, Prog.lift, Prog.bind_op, Prog.bind_ret, Prog.pure_eq_ret, wp_deviceId, dev1_eq c, dev2_eq c]
  iintro ⟨#HR, #Hlev, HO, Hat, HtN, HtP, Hc, Hslots, Hx, Hw⟩ Hk
  ihave #HIP := (inv_at m K (prv c) none) $$ HR
  ihave #HIN := (inv_at m K (nxt c) none) $$ HR
  ihave #HIB := (inv_at m K c none) $$ HR
  ihave #HrP := (reached_at m K (prv c) none) $$ HR
  ihave #HrN := (reached_at m K (nxt c) none) $$ HR
  iapply (Rounds.wp_signal 𝒱₀ ER (rd m) (c : Thread nD τ) none (dst := (prv c : Thread nD τ)) (κ := K (prv c, none))
      (d := true) ((Finset.ext_iff.mp (duties_bar m (prv c)) true).mpr (Finset.mem_univ _)) ((amount_bar m (prv c) true).trans (by decide)) () (O₁ c) rfl)
    $$ [HO HtP Hslots]
  · isplitr; · iexact HIP
    isplitl [HO]; · iexact HO
    isplitl [HtP]; · iexact HtP
    isplitl [Hslots]
    · have e : (rd m).payload ((prv c : Thread nD τ), SemLoc.reg barS) 0 true
          = bigSep Finset.univ fun h : Fin 7 => iprop(slotAny (F := F) c false h ∗ slotAny (F := F) c true h) :=
        (payload_bar_true m (prv c)).trans (by unfold barPay; rw [nxt_prv])
      rw [e]; iexact Hslots
    iexact HrP
  iintro HO
  unfold O₁
  iapply (Rounds.wp_signal 𝒱₀ ER (rd m) (c : Thread nD τ) none (dst := (nxt c : Thread nD τ)) (κ := K (nxt c, none))
      (d := false) ((Finset.ext_iff.mp (duties_bar m (nxt c)) false).mpr (Finset.mem_univ _)) ((amount_bar m (nxt c) false).trans (by decide)) () (owe c hops) rfl)
    $$ [HO HtN]
  · isplitr; · iexact HIN
    isplitl [HO]; · iexact HO
    isplitl [HtN]; · iexact HtN
    isplitr
    · have e : (rd m).payload ((nxt c : Thread nD τ), SemLoc.reg barS) 0 false = iprop(emp) := payload_bar_false m (nxt c)
      rw [e]; iempintro
    iexact HrN
  iintro HO
  iapply (Rounds.wp_wait_rest_token 𝒱₀ ER (rd m) (c : Thread nD τ) none (κ := K (c, none)) (sm := .reg barS)
      (wpE_semWait_eq 𝒱₀ (c : Thread nD τ) none Set.univ) (Set.mem_univ _) () (O := owe c hops) (W := W) (R := 0) (m := 0) (T := ∅)
      ((by decide : 0 + (2#32).toNat = 2).trans (expect_bar m c).symm)) $$ [Hc HO Hat]
  · isplitr; · iexact HIB
    isplitl [Hc]; · iexact Hc
    isplitl [HO]; · iexact HO
    isplitr
    · iapply (mayWait_owe c (.reg barS) hops 1 (le_of_eq (congrArg lvOf (dec_csem none))) (by decide)); iexact Hlev
    iexact Hat
  iintro ⟨HO, Hat, -, Hpay⟩
  ihave Hp := (Entails.of_eq (show bigSep ((rd m).duties ((c : Thread nD τ), SemLoc.reg barS) 0 \ ∅) (fun d => (rd m).payload ((c : Thread nD τ), SemLoc.reg barS) 0 d)
    = iprop(emp ∗ barPay c) from rest_bar m c)) $$ Hpay
  icases Hp with ⟨-, Hp⟩
  imod (Rounds.cell_close ER (rd m) (Set.mem_univ (K (c, none))) (fun h => h) (R := 0 + 1) (duties_later m (cell c none))) $$ [Hat] with Hz
  · isplitr; · iexact HIB
    iexact Hat
  iapply (wp_load 𝒱₀ (c : Thread nD τ) none Set.univ (m := xM) (Finset.subset_univ _)) $$ Hx; iintro Hx
  iapply (wp_load 𝒱₀ (c : Thread nD τ) none Set.univ (m := wqM) (Finset.subset_univ _)) $$ Hw; iintro Hw
  iapply (wp_load 𝒱₀ (c : Thread nD τ) none Set.univ (m := xM) (Finset.subset_univ _)) $$ Hx; iintro Hx
  iapply (wp_load 𝒱₀ (c : Thread nD τ) none Set.univ (m := wqM) (Finset.subset_univ _)) $$ Hw; iintro Hw
  have hx0 : xM.view.readAt (Elt F) (Rect.unit (s := S2x512x768) ![(0 : Fin 2).val, 0, 0] S1x512x768.size (inb_out 0)).toLoadRect (xAt m c) = rowX (xAt m c) 0 := readX 0 _
  have hx1 : xM.view.readAt (Elt F) (Rect.unit (s := S2x512x768) ![(1 : Fin 2).val, 0, 0] S1x512x768.size (inb_out 1)).toLoadRect (xAt m c) = rowX (xAt m c) 1 := readX 1 _
  rw [hx0, hx1, readWq, wp_ret]
  imodintro
  unfold barPay qAt
  iapply Hk
  isplitl [HO]; · iexists _; iexact HO
  isplitl [Hz]; · iexact Hz
  isplitl [Hp]; · iexact Hp
  isplitl [Hx]; · iexact Hx
  iexact Hw

/-- The two batch entries of the result are stored. -/
theorem finish_spec (c : Dev nD) (s : St F) (f : Vec F S2x512x768 .f32) {Q : PUnit → sProp 𝕄} :
    iprop((((c : Thread nD τ).loc cc0_stg4_0) ↦{fullShare} (woAt m c)) ∗ (((c : Thread nD τ).loc cc0_stg5_0) ↦{fullShare} f))
      ⊢ iprop(((((c : Thread nD τ).loc cc0_stg4_0) ↦{fullShare} (woAt m c))
            ∗ (((c : Thread nD τ).loc cc0_stg5_0) ↦{fullShare} (fun i : S2x512x768.Idx => outOf s (i 0) (woAt m c) (ix3 (0 : Fin 1) (i 1) (i 2)) : Vec F S2x512x768 .f32))
            -∗ Q ⟨⟩)
          -∗ wpc c (do finish 0 s; finish 1 s) Q) := by
  unfold finish wpc ldWo
  simp only [Prog.lift, Prog.bind_op, Prog.bind_ret, Prog.pure_eq_ret]
  iintro ⟨Hw, Ho⟩ Hk
  iapply (wp_load 𝒱₀ (c : Thread nD τ) none Set.univ (m := woM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := rowR 0) (Mk := Finset.univ) (Finset.subset_univ _)) $$ Ho; iintro Ho
  iapply (wp_load 𝒱₀ (c : Thread nD τ) none Set.univ (m := woM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := rowR 1) (Mk := Finset.univ) (Finset.subset_univ _)) $$ Ho; iintro Ho
  rw [readWo, wp_ret]
  imodintro
  have e := store_rows f (fun b => outOf s b (woAt m c))
  rw [e]
  iapply Hk
  isplitl [Hw]; · iexact Hw
  iexact Ho

end Cert.Attn

end
-- ==== Proof.Sound.lean ====
module

public import proofs.«01_k».proof.Proof.Body

@[expose] public section

noncomputable section

/-!
# The body obligation

The whole body, its front, seven hops, the last attention and the stores put together, as the pipeline asks for it.
-/

namespace Cert.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- The slots of the two gathered buffers, hop by hop. -/
theorem slots_pair (c : Dev nD) :
    iprop((∃ X, owns (c : Thread nD τ) (gath false) fullShare X) ∗ (∃ X, owns (c : Thread nD τ) (gath true) fullShare X))
      ⊢ (bigSep Finset.univ fun h : Fin 7 => iprop(slotAny c false h ∗ slotAny c true h) : sProp 𝕄) := by
  rw [bigSep_sep']
  iintro ⟨⟨%X, HK⟩, ⟨%Y, HV⟩⟩
  isplitl [HK]
  · iapply (slots_split c false X); iexact HK
  · iapply (slots_split c true Y); iexact HV

/-- What the finished hops leave, sorted by kind. -/
theorem done_split (c : Dev nD) :
    (bigSep Finset.univ fun h : Fin 7 => iprop(done m c false h ∗ done m c true h))
      ⊢ iprop((bigSep Finset.univ fun h : Fin 7 => owns (c : Thread nD τ) (src false h.castSucc) fullShare (chunk m false (orig c h.castSucc)))
        ∗ (bigSep Finset.univ fun h : Fin 7 => owns (c : Thread nD τ) (src true h.castSucc) fullShare (chunk m true (orig c h.castSucc)))
        ∗ bigSep Finset.univ fun h : Fin 7 => cells0 c h) := by
  have hh (h : Fin 7) : iprop(done m c false h ∗ done m c true h)
      ⊢ (iprop(owns (c : Thread nD τ) (src false h.castSucc) fullShare (chunk m false (orig c h.castSucc))
        ∗ owns (c : Thread nD τ) (src true h.castSucc) fullShare (chunk m true (orig c h.castSucc)) ∗ cells0 c h) : sProp 𝕄) := by
    unfold done cells0
    iintro ⟨⟨H1, H2, H3⟩, H4, H5, H6⟩
    isplitl [H1]; · iexact H1
    isplitl [H4]; · iexact H4
    isplitl [H2 H3]
    · isplitl [H2]; · iexact H2
      iexact H3
    isplitl [H5]; · iexact H5
    iexact H6
  rw [← bigSep_sep', ← bigSep_sep']
  exact bigSep_mono fun h _ => hh h

theorem wp_seq (c : Dev nD) {α β : Type} (p : P F α) (k : α → P F β) {Q : β → sProp 𝕄} :
    wpc c p (fun v => wpc c (k v) Q) ⊢ wpc c (p >>= k) Q := Entails.of_eq (by unfold wpc; rw [wp_bind])

theorem own_src (c : Dev nD) (a : Bool) :
    (owns (c : Thread nD τ) (own a) fullShare (chunk m a c) : sProp 𝕄)
      = owns (c : Thread nD τ) (src a (0 : Fin 7).castSucc) fullShare (chunk m a (orig c (0 : Fin 7).castSucc)) :=
  congrArg (fun d => (owns (c : Thread nD τ) (own a) fullShare (chunk m a d) : sProp 𝕄)) (orig_zero c).symm

/-- The program after its barrier. -/
def tail (d : Dev nD) (q : Fin 2 → FVec F S512x512 .f32) : P F PUnit := do
  let s ← hop ⟨k0_dev3 d, k0_dev3_lt d⟩ ⟨k0_dev4 d, k0_dev4_lt d⟩ d q 0 St.zero
  let s ← hop ⟨k0_dev5 d, k0_dev5_lt d⟩ ⟨k0_dev6 d, k0_dev6_lt d⟩ d q 1 s
  let s ← hop ⟨k0_dev7 d, k0_dev7_lt d⟩ ⟨k0_dev8 d, k0_dev8_lt d⟩ d q 2 s
  let s ← hop ⟨k0_dev9 d, k0_dev9_lt d⟩ ⟨k0_dev10 d, k0_dev10_lt d⟩ d q 3 s
  let s ← hop ⟨k0_dev11 d, k0_dev11_lt d⟩ ⟨k0_dev12 d, k0_dev12_lt d⟩ d q 4 s
  let s ← hop ⟨k0_dev13 d, k0_dev13_lt d⟩ ⟨k0_dev14 d, k0_dev14_lt d⟩ d q 5 s
  let s ← hop ⟨k0_dev15 d, k0_dev15_lt d⟩ ⟨k0_dev16 d, k0_dev16_lt d⟩ d q 6 s
  let s ← attend d q 7 s
  do finish 0 s; finish 1 s

theorem prog_eq : prog (F := F) = front >>= fun p => tail p.1 p.2 := rfl

set_option maxHeartbeats 1000000 in
/-- The seven hops, the last attention and the stores. -/
theorem tail_spec (K : Dev nD × Option Cl → ℕ) (c : Dev nD) (q : Fin 2 → FVec F S512x512 .f32) (f : Vec F S2x512x768 .f32) {Q : PUnit → sProp 𝕄} :
    iprop(records m K ∗ levAts L lv ∗ (∃ W, owes (c : Thread nD τ) (owe c hops) W)
        ∗ (bigSep Finset.univ fun h : Fin 7 => iprop(slotAny (nxt c) false h ∗ slotAny (nxt c) true h))
        ∗ (bigSep Finset.univ fun h : Fin 7 => iprop(todo c false h ∗ todo c true h))
        ∗ owns (c : Thread nD τ) (own false) fullShare (chunk m false c) ∗ owns (c : Thread nD τ) (own true) fullShare (chunk m true c)
        ∗ (((c : Thread nD τ).loc cc0_stg4_0) ↦{fullShare} (woAt m c)) ∗ (((c : Thread nD τ).loc cc0_stg5_0) ↦{fullShare} f))
      ⊢ iprop((((∃ X, owns (c : Thread nD τ) (gath false) fullShare X) ∗ (∃ X, owns (c : Thread nD τ) (gath true) fullShare X))
            ∗ (bigSep Finset.univ fun h : Fin 7 => cells0 c h) ∗ (∃ W, owes (c : Thread nD τ) 0 W)
            ∗ owns (c : Thread nD τ) (own false) fullShare (chunk m false c) ∗ owns (c : Thread nD τ) (own true) fullShare (chunk m true c)
            ∗ (((c : Thread nD τ).loc cc0_stg4_0) ↦{fullShare} (woAt m c))
            ∗ (((c : Thread nD τ).loc cc0_stg5_0) ↦{fullShare} (fun i : S2x512x768.Idx => outOf (finalSt m c q) (i 0) (woAt m c) (ix3 (0 : Fin 1) (i 1) (i 2)) : Vec F S2x512x768 .f32))
            -∗ Q ⟨⟩)
          -∗ wpc c (tail c q) Q) := by
  unfold tail
  iintro ⟨#HR, #Hlev, HO, Hs, Htodo, HK, HV, Hwo, Ho⟩ Hk
  ihave Hs := (Entails.of_eq (bigSep_fin7 fun h : Fin 7 => iprop(slotAny (F := F) (nxt c) false h ∗ slotAny (F := F) (nxt c) true h))) $$ Hs
  ihave Htodo := (Entails.of_eq (bigSep_fin7 fun h : Fin 7 => iprop(todo (F := F) c false h ∗ todo (F := F) c true h))) $$ Htodo
  icases Hs with ⟨Hs0, Hs1, Hs2, Hs3, Hs4, Hs5, Hs6⟩
  icases Htodo with ⟨Ht0, Ht1, Ht2, Ht3, Ht4, Ht5, Ht6⟩
  ihave HK := (Entails.of_eq (own_src m c false)) $$ HK
  ihave HV := (Entails.of_eq (own_src m c true)) $$ HV
  iapply wp_seq
  iapply (hop_spec m K c _ _ (dev3_eq c) (dev4_eq c) q 0 St.zero [1, 2, 3, 4, 5, 6] (by decide)) $$ [HO Hs0 Ht0 HK HV]
  · isplitr; · iexact HR
    isplitr; · iexact Hlev
    isplitl [HO]; · iexact HO
    isplitl [Hs0]; · iexact Hs0
    isplitl [Ht0]; · iexact Ht0
    isplitl [HK]; · iexact HK
    iexact HV
  iintro ⟨HO, Hd0, HK, HV⟩
  iapply wp_seq
  iapply (hop_spec m K c _ _ (dev5_eq c) (dev6_eq c) q 1 _ [2, 3, 4, 5, 6] (by decide)) $$ [HO Hs1 Ht1 HK HV]
  · isplitr; · iexact HR
    isplitr; · iexact Hlev
    isplitl [HO]; · iexact HO
    isplitl [Hs1]; · iexact Hs1
    isplitl [Ht1]; · iexact Ht1
    isplitl [HK]; · iexact HK
    iexact HV
  iintro ⟨HO, Hd1, HK, HV⟩
  iapply wp_seq
  iapply (hop_spec m K c _ _ (dev7_eq c) (dev8_eq c) q 2 _ [3, 4, 5, 6] (by decide)) $$ [HO Hs2 Ht2 HK HV]
  · isplitr; · iexact HR
    isplitr; · iexact Hlev
    isplitl [HO]; · iexact HO
    isplitl [Hs2]; · iexact Hs2
    isplitl [Ht2]; · iexact Ht2
    isplitl [HK]; · iexact HK
    iexact HV
  iintro ⟨HO, Hd2, HK, HV⟩
  iapply wp_seq
  iapply (hop_spec m K c _ _ (dev9_eq c) (dev10_eq c) q 3 _ [4, 5, 6] (by decide)) $$ [HO Hs3 Ht3 HK HV]
  · isplitr; · iexact HR
    isplitr; · iexact Hlev
    isplitl [HO]; · iexact HO
    isplitl [Hs3]; · iexact Hs3
    isplitl [Ht3]; · iexact Ht3
    isplitl [HK]; · iexact HK
    iexact HV
  iintro ⟨HO, Hd3, HK, HV⟩
  iapply wp_seq
  iapply (hop_spec m K c _ _ (dev11_eq c) (dev12_eq c) q 4 _ [5, 6] (by decide)) $$ [HO Hs4 Ht4 HK HV]
  · isplitr; · iexact HR
    isplitr; · iexact Hlev
    isplitl [HO]; · iexact HO
    isplitl [Hs4]; · iexact Hs4
    isplitl [Ht4]; · iexact Ht4
    isplitl [HK]; · iexact HK
    iexact HV
  iintro ⟨HO, Hd4, HK, HV⟩
  iapply wp_seq
  iapply (hop_spec m K c _ _ (dev13_eq c) (dev14_eq c) q 5 _ [6] (by decide)) $$ [HO Hs5 Ht5 HK HV]
  · isplitr; · iexact HR
    isplitr; · iexact Hlev
    isplitl [HO]; · iexact HO
    isplitl [Hs5]; · iexact Hs5
    isplitl [Ht5]; · iexact Ht5
    isplitl [HK]; · iexact HK
    iexact HV
  iintro ⟨HO, Hd5, HK, HV⟩
  iapply wp_seq
  iapply (hop_spec m K c _ _ (dev15_eq c) (dev16_eq c) q 6 _ [] (by decide)) $$ [HO Hs6 Ht6 HK HV]
  · isplitr; · iexact HR
    isplitr; · iexact Hlev
    isplitl [HO]; · iexact HO
    isplitl [Hs6]; · iexact Hs6
    isplitl [Ht6]; · iexact Ht6
    isplitl [HK]; · iexact HK
    iexact HV
  iintro ⟨HO, Hd6, HK, HV⟩
  iapply wp_seq
  iapply (attend_spec m c q 7 _ fullShare) $$ [HK HV]
  · isplitl [HK]; · iexact HK
    iexact HV
  iintro ⟨HK, HV⟩
  iapply (finish_spec m c (finalSt m c q) f) $$ [Hwo Ho]
  · isplitl [Hwo]; · iexact Hwo
    iexact Ho
  iintro ⟨Hwo, Ho⟩
  ihave Hd := (done_split m c) $$ [Hd0 Hd1 Hd2 Hd3 Hd4 Hd5 Hd6]
  · rw [bigSep_fin7]
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    iexact Hd6
  icases Hd with ⟨HdK, HdV, Hz⟩
  ihave HK := (slots_back m c false) $$ [HdK HK]
  · isplitl [HdK]; · iexact HdK
    iexact HK
  icases HK with ⟨HK, HgK⟩
  ihave HV := (slots_back m c true) $$ [HdV HV]
  · isplitl [HdV]; · iexact HdV
    iexact HV
  icases HV with ⟨HV, HgV⟩
  iapply Hk
  isplitl [HgK HgV]
  · isplitl [HgK]; · iexact HgK
    iexact HgV
  isplitl [Hz]; · iexact Hz
  isplitl [HO]; · iexact HO
  isplitl [HK]; · iexact HK
  isplitl [HV]; · iexact HV
  isplitl [Hwo]; · iexact Hwo
  iexact Ho

/-- The whole body. -/
theorem sound_body (K : Dev nD × Option Cl → ℕ) (c : Dev nD) (W : Waits sig Unit) (f : Vec F S2x512x768 .f32) {Q : PUnit → sProp 𝕄} :
    iprop(start m K c ∗ ((∃ X, owns (c : Thread nD τ) (gath false) fullShare X) ∗ (∃ X, owns (c : Thread nD τ) (gath true) fullShare X))
        ∗ owes (c : Thread nD τ) (O₀ c) W ∗ staged m c f)
      ⊢ iprop((Φ₁ c ∗ (∃ W', owes (c : Thread nD τ) 0 W') ∗ staged m c (outAt m c) -∗ Q ⟨⟩) -∗ wpc c prog Q) := by
  rw [prog_eq]
  unfold start staged
  iintro ⟨⟨#HR, #Hlev, HaB, HtN, HtP, HcB, Htodo⟩, Hg, HO, Hx, Hwq, HK, HV, Hwo, Ho⟩ Hk
  ihave Hs := (slots_pair (F := F) c) $$ Hg
  iapply wp_seq
  iapply (front_spec m K c W) $$ [HO HaB HtN HtP HcB Hs Hx Hwq]
  · isplitr; · iexact HR
    isplitr; · iexact Hlev
    isplitl [HO]; · iexact HO
    isplitl [HaB]; · iexact HaB
    isplitl [HtN]; · iexact HtN
    isplitl [HtP]; · iexact HtP
    isplitl [HcB]; · iexact HcB
    isplitl [Hs]; · iexact Hs
    isplitl [Hx]; · iexact Hx
    iexact Hwq
  iintro ⟨HO, HzB, Hs, Hx, Hwq⟩
  iapply (tail_spec m K c (qAt m c) f) $$ [HO Hs Htodo HK HV Hwo Ho]
  · isplitr; · iexact HR
    isplitr; · iexact Hlev
    isplitl [HO]; · iexact HO
    isplitl [Hs]; · iexact Hs
    isplitl [Htodo]; · iexact Htodo
    isplitl [HK]; · iexact HK
    isplitl [HV]; · iexact HV
    isplitl [Hwo]; · iexact Hwo
    iexact Ho
  iintro ⟨⟨HgK, HgV⟩, Hz, HO, HK, HV, Hwo, Ho⟩
  iapply Hk
  unfold Φ₁
  isplitl [HzB Hz HgK HgV]
  · isplitl [HgK HgV]
    · isplitl [HgK]; · iexact HgK
      iexact HgV
    isplitl [HzB]; · iexact HzB
    iexact Hz
  isplitl [HO]; · iexact HO
  isplitl [Hx]; · iexact Hx
  isplitl [Hwq]; · iexact Hwq
  isplitl [HK]; · iexact HK
  isplitl [HV]; · iexact HV
  isplitl [Hwo]; · iexact Hwo
  iexact Ho

end Cert.Attn

end
-- ==== Proof.Obligation.lean ====
module

public import proofs.«01_k».proof.Proof.Sound

@[expose] public section

noncomputable section

/-!
# The pipeline's obligation for the body

The pipeline asks that the printed body, run from the staged input blocks, leaves the staged output block; this is
`sound_body` with the staged buffers put in the pipeline's form.
-/

namespace Cert.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

abbrev held (c : Dev nD) (b : Ref sig .tc) (X : b.ty.Contents (Elt F)) : sProp 𝕄 :=
  owns (c : Thread nD τ) (Memref.whole b) fullShare X

/-- A buffer held outright at some contents, as a points-to and back. -/
theorem held_elim (c : Dev nD) (b : Ref sig .tc) (X : b.ty.Contents (Elt F)) :
    held c b X ⊢ (((c : Thread nD τ).loc b) ↦{fullShare} X : sProp 𝕄) := by
  unfold held; rw [owns_whole_eq]
  iintro ⟨%f, %hf, H⟩
  subst hf
  iexact H
theorem held_intro (c : Dev nD) (b : Ref sig .tc) (X : b.ty.Contents (Elt F)) :
    (((c : Thread nD τ).loc b) ↦{fullShare} X : sProp 𝕄) ⊢ held c b X := by
  unfold held; rw [owns_whole_eq]
  iintro H
  iexists X
  isplitr; · ipureintro; rfl
  iexact H

theorem before_0 (c : Dev nD) (d) : (dats m 0 c).before (0 : Fin 6) t0_0 d = xAt m c := by unfold Dat.before; rw [if_pos (fetch0_0 _)]; rfl
theorem before_1 (c : Dev nD) (d) : (dats m 0 c).before (1 : Fin 6) t0_0 d = wqAt m c := by unfold Dat.before; rw [if_pos (fetch0_1 _)]; rfl
theorem before_2 (c : Dev nD) (d) : (dats m 0 c).before (2 : Fin 6) t0_0 d = chunk m false c := by unfold Dat.before; rw [if_pos (fetch0_2 _)]; rfl
theorem before_3 (c : Dev nD) (d) : (dats m 0 c).before (3 : Fin 6) t0_0 d = chunk m true c := by unfold Dat.before; rw [if_pos (fetch0_3 _)]; rfl
theorem before_4 (c : Dev nD) (d) : (dats m 0 c).before (4 : Fin 6) t0_0 d = woAt m c := by unfold Dat.before; rw [if_pos (fetch0_4 _)]; rfl

/-- What the pipeline hands the body. -/
def bodyPre (c : Dev nD) : sProp 𝕄 :=
  iprop(Φ₀ m c ∗ (dats m 0 c).owesAt () t0_0.castSucc
    ∗ (∃ d, held c cc0_stg0_0 ((dats m 0 c).before (0 : Fin 6) t0_0 d))
    ∗ (∃ d, held c cc0_stg1_0 ((dats m 0 c).before (1 : Fin 6) t0_0 d))
    ∗ (∃ d, held c cc0_stg2_0 ((dats m 0 c).before (2 : Fin 6) t0_0 d))
    ∗ (∃ d, held c cc0_stg3_0 ((dats m 0 c).before (3 : Fin 6) t0_0 d))
    ∗ (∃ d, held c cc0_stg4_0 ((dats m 0 c).before (4 : Fin 6) t0_0 d))
    ∗ (∃ d, held c cc0_stg5_0 ((dats m 0 c).before (5 : Fin 6) t0_0 d)))

/-- What it expects back. -/
def bodyPost (c : Dev nD) : sProp 𝕄 :=
  iprop(Φ₁ c ∗ (dats m 0 c).owesAt () t0_0.succ
    ∗ held c cc0_stg0_0 (xAt m c) ∗ held c cc0_stg1_0 (wqAt m c) ∗ held c cc0_stg2_0 (chunk m false c) ∗ held c cc0_stg3_0 (chunk m true c)
    ∗ held c cc0_stg4_0 (woAt m c) ∗ held c cc0_stg5_0 (outAt m c))

theorem body_sound (c : Dev nD) : bodyPre m c ⊢ wpc c prog (fun _ => bodyPost m c) := by
  unfold bodyPre Φ₀ Dat.owesAt Pipeline.owesWithin
  simp only [before_0, before_1, before_2, before_3, before_4]
  rw [show (dats m 0 c).owed t0_0.castSucc = O₀ c from rfl]
  iintro ⟨⟨⟨%K, Hst⟩, Hg⟩, ⟨%W, %hW, HO⟩, ⟨%d0, H0⟩, ⟨%d1, H1⟩, ⟨%d2, H2⟩, ⟨%d3, H3⟩, ⟨%d4, H4⟩, ⟨%d5, H5⟩⟩
  ihave H0 := (held_elim c cc0_stg0_0 (xAt m c)) $$ H0
  ihave H1 := (held_elim c cc0_stg1_0 (wqAt m c)) $$ H1
  ihave H4 := (held_elim c cc0_stg4_0 (woAt m c)) $$ H4
  ihave H5 := (held_elim c cc0_stg5_0 _) $$ H5
  iapply (sound_body m K c W ((dats m 0 c).before (5 : Fin 6) t0_0 d5)) $$ [Hst Hg HO H0 H1 H2 H3 H4 H5]
  · isplitl [Hst]; · iexact Hst
    isplitl [Hg]; · iexact Hg
    isplitl [HO]; · iexact HO
    unfold staged
    isplitl [H0]; · iexact H0
    isplitl [H1]; · iexact H1
    isplitl [H2]; · iexact H2
    isplitl [H3]; · iexact H3
    isplitl [H4]; · iexact H4
    iexact H5
  unfold staged bodyPost Dat.owesAt Pipeline.owesWithin
  rw [show (dats m 0 c).owed t0_0.succ = 0 from rfl]
  iintro ⟨Hf, ⟨%W', HO⟩, H0, H1, H2, H3, H4, H5⟩
  isplitl [Hf]; · iexact Hf
  isplitl [HO]
  · iexists W'
    isplitr; · ipureintro; exact fun _ _ => Or.inl trivial
    iexact HO
  isplitl [H0]; · iapply (held_intro c cc0_stg0_0 (xAt m c)); iexact H0
  isplitl [H1]; · iapply (held_intro c cc0_stg1_0 (wqAt m c)); iexact H1
  isplitl [H2]; · iexact H2
  isplitl [H3]; · iexact H3
  isplitl [H4]; · iapply (held_intro c cc0_stg4_0 (woAt m c)); iexact H4
  iapply (held_intro c cc0_stg5_0 (outAt m c)); iexact H5

set_option maxRecDepth 100000 in
/-- The library's body obligation on device `c`. -/
theorem body_obligation (c : Dev nD) : BodyObligation (dats (F := F) m 0 c) (defs₀ (F := F)) 𝒱₀ () Set.univ := fun t => by
  rw [fin_N0 t]
  have hb : bodyPre m c ⊢ wp frame (wpE (defs₀ (F := F)) 𝒱₀ (c : Thread nD τ) none) Set.univ
      (cc0_body (F := F) (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _) (Memref.whole cc0_stg4_0) (Memref.isWhole_whole _)
        (Memref.whole cc0_stg5_0) (Memref.isWhole_whole _) (Memref.whole cc0_scratch0) (Memref.isWhole_whole _) (Memref.whole cc0_scratch1) (Memref.isWhole_whole _)
        cc0_scratch2 cc0_scratch3 cc0_scratch4 cc0_scratch5) (fun _ => bodyPost m c) := by
    exact (body_sound m c).trans (Entails.of_eq (congrArg (fun p : P F PUnit => wpc c p (fun _ => bodyPost m c)) body_eq.symm))
  rw [bigSep_W0, bigSep_W0]
  exact hb

end Cert.Attn

end
-- ==== Proof.Launch.lean ====
module

public import proofs.«01_k».proof.Proof.Obligation
public import Idealize.ShloMosaic.Lib.Pipeline.CollectiveSegs

@[expose] public section

noncomputable section

/-!
# The launch

The cells' ghost state is minted for all devices at once, each device is dealt the positions of its own cells and the
duties it pays, and the pipeline's launch theorem runs the eight devices.
-/

namespace Cert.Attn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over the cells -/

theorem bigSep_bool (Φ : Bool → sProp 𝕄) : bigSep Finset.univ Φ = iprop(Φ false ∗ Φ true) :=
  bigSep_univ_eq_bigSepL [false, true] (by decide) (by decide) Φ

theorem bigSep_opt {X : Type} [Fintype X] [DecidableEq X] (Φ : Option X → sProp 𝕄) :
    bigSep Finset.univ Φ = iprop(Φ none ∗ bigSep Finset.univ fun k => Φ (some k)) := by
  have e : (Finset.univ : Finset (Option X)).erase none = Finset.univ.map ⟨some, Option.some_injective X⟩ := by
    ext k; rcases k with _ | k <;> simp
  rw [bigSep_univ_at Φ none, e, bigSep_map]
  rfl

def turn : Fin 7 × Bool × Bool ≃ Cl := ⟨fun x => (x.2.2, x.2.1, x.1), fun x => (x.2.2, x.2.1, x.1), fun _ => rfl, fun _ => rfl⟩

/-- The transfers' cells hop by hop: the keys' two, then the values' two. -/
theorem bigSep_cl (Φ : Cl → sProp 𝕄) : bigSep Finset.univ Φ
    = bigSep Finset.univ fun h : Fin 7 => iprop((Φ (false, false, h) ∗ Φ (true, false, h)) ∗ (Φ (false, true, h) ∗ Φ (true, true, h))) := by
  rw [bigSep_univ_equiv turn, bigSep_univ_prod]
  refine bigSep_congr fun h _ => ?_
  rw [bigSep_univ_prod, bigSep_bool, bigSep_bool, bigSep_bool]
  rfl

/-! ## The cells and the duties minted -/

abbrev osem (k : Cl) : SemLoc sig := .dma (dsem k)

theorem ownSemFacts : Pipeline.OwnSemFacts cfg0.spec osem := by decide

theorem share_eq (c : Dev nD) (w : Fin cfg0.W) : (dats m 0 c).share w = fullShare := by unfold Dat.share; split <;> rfl

def kcell (ck : Dev nD × Option Cl) : GSem nD τ sig := cell ck.1 ck.2
theorem kcell_injective : Function.Injective kcell := fun a b h => Prod.ext (cell_inj h).1 (cell_inj h).2
def ringCells : Finset (GSem nD τ sig) := Finset.univ.map ⟨kcell, kcell_injective⟩

/-- A device's duties as minted: every cell's `false` one, and the barrier's `true` one. -/
def tokOf (ck : Dev nD × Option (Option Cl)) : GSem nD τ sig × ℕ × Bool :=
  match ck.2 with
  | none => (cell ck.1 none, 0, true)
  | some k => (cell ck.1 k, 0, false)
theorem tokOf_injective : Function.Injective tokOf := by
  rintro ⟨c, j⟩ ⟨c', j'⟩ h
  rcases j with _ | k <;> rcases j' with _ | k'
  · exact Prod.ext (cell_inj (congrArg (fun x : GSem nD τ sig × ℕ × Bool => x.1) h)).1 rfl
  · exact absurd (congrArg (fun x : GSem nD τ sig × ℕ × Bool => x.2.2) h) (by show ¬ (true = false); decide)
  · exact absurd (congrArg (fun x : GSem nD τ sig × ℕ × Bool => x.2.2) h) (by show ¬ (false = true); decide)
  · have := cell_inj (congrArg (fun x : GSem nD τ sig × ℕ × Bool => x.1) h)
    exact Prod.ext this.1 (congrArg some this.2)
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duties of device `c`'s transfer cells of one kind, all hops. -/
def T (c : Dev nD) (b a : Bool) : sProp 𝕄 := bigSep Finset.univ fun h : Fin 7 => dutyTok ER (cell c (some (b, a, h))) 0 false

/-- The duties of device `c`'s own cells. -/
def toks (c : Dev nD) : sProp 𝕄 :=
  iprop(dutyTok ER (cell c none) 0 true ∗ dutyTok ER (cell c none) 0 false ∗ (T c false false ∗ T c true false) ∗ (T c false true ∗ T c true true))

/-- What the launch element deals device `c`. -/
def G (c : Dev nD) : sProp 𝕄 :=
  iprop((bigSep Finset.univ fun k : Option Cl => roundState ER (rd m) (cell c k) 0)
    ∗ (bigSep Finset.univ fun k : Option Cl => iprop(atPos ER (cell c k) 0 ∅ 0 ∗ reached ER (cell c k) 0)) ∗ toks c)

theorem toks_eq (c : Dev nD) : (bigSep Finset.univ fun k : Option (Option Cl) => (dutyTok ER (tokOf (c, k)).1 (tokOf (c, k)).2.1 (tokOf (c, k)).2.2 : sProp 𝕄)) = toks c := by
  rw [bigSep_opt, bigSep_opt, bigSep_cl]
  simp only [bigSep_sep']
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Option Cl => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

theorem ownSems0_eq (c : Dev nD) : (Pipeline.ownSems0 (Ix := Unit) (Name := ℕ) (U := UU) (Lvl := ℕ) (Val := Elt F) (τ := τ) osem c : sProp 𝕄)
    = bigSep Finset.univ fun k : Cl => semVal (cell c (some k)) 0 := rfl
/-- The barrier semaphore is the launch's one unscoped semaphore. -/
theorem unscopedSems0_eq (c : Dev nD) : (unscopedSems0 c : sProp 𝕄) = semVal (cell c none) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option Cl => semVal (cell c k) 0 : sProp 𝕄) := by
  rw [ownSems0_eq, unscopedSems0_eq, bigSep_opt]
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (cell c k)))
          ∗ (bigSep Finset.univ fun k => iprop(atPos ER (cell c k) 0 ∅ 0 ∗ reached ER (cell c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option Cl => semVal (cell c k) 0) ∗ bigSep Finset.univ fun k : Option Cl => roundState ER (rd m) (cell c k) 0)
      ⊢ (|={Set.univ}=> bigSep Finset.univ fun k => iprop(∃ κ : ℕ, cellInv ER (rd m) κ (cell c k)) : sProp 𝕄) from by
        rw [← bigSep_sep']
        exact (bigSep_mono fun k _ => (Rounds.body_intro ER (rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## What each device keeps -/

/-- The duties device `c` pays. -/
def payToks (c : Dev nD) : sProp 𝕄 :=
  iprop(dutyTok ER (cell (prv c) none) 0 true ∗ dutyTok ER (cell (nxt c) none) 0 false
    ∗ (T c false false ∗ T (nxt c) true false) ∗ (T c false true ∗ T (nxt c) true true))

def linear (c : Dev nD) : sProp 𝕄 := iprop((bigSep Finset.univ fun k : Option Cl => atPos ER (cell c k) 0 ∅ 0) ∗ payToks c)

def G' (c : Dev nD) : sProp 𝕄 := iprop(∃ K, records m K ∗ linear c)

/-- The duties dealt around the ring. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (cell c none) 0 false : sProp 𝕄)),
    bigSep_univ_equiv ring.symm (fun c : Dev nD => (dutyTok ER (cell c none) 0 true : sProp 𝕄)),
    bigSep_univ_equiv ring (fun c : Dev nD => (T c true false : sProp 𝕄)), bigSep_univ_equiv ring (fun c : Dev nD => (T c true true : sProp 𝕄))]
  exact BI.Entails.refl _

theorem regroup :
    (bigSep Finset.univ fun c : Dev nD => iprop((bigSep Finset.univ fun k => iprop(∃ κ : ℕ, cellInv ER (rd m) κ (cell c k)))
          ∗ (bigSep Finset.univ fun k => iprop(atPos ER (cell c k) 0 ∅ 0 ∗ reached ER (cell c k) 0)) ∗ toks c) : sProp 𝕄)
      ⊢ bigSep Finset.univ (G' m) := by
  rw [bigSep_sep', bigSep_sep', ← bigSep_univ_prod (fun ck : Dev nD × Option Cl => iprop(∃ κ : ℕ, cellInv ER (rd m) κ (cell ck.1 ck.2))),
    bigSep_congr (s := Finset.univ) (fun (c : Dev nD) _ => bigSep_sep' Finset.univ (fun k : Option Cl => (atPos ER (cell c k) 0 ∅ 0 : sProp 𝕄)) (fun k => reached ER (cell c k) 0)),
    bigSep_sep', ← bigSep_univ_prod (fun ck : Dev nD × Option Cl => (reached ER (cell ck.1 ck.2) 0 : sProp 𝕄))]
  iintro ⟨HI, ⟨Hat, #HR⟩, Htok⟩
  ihave HK := (BI.bigSep_exists_pi Finset.univ (fun (ck : Dev nD × Option Cl) (κ : ℕ) => (cellInv ER (rd m) κ (cell ck.1 ck.2) : sProp 𝕄))) $$ HI
  icases HK with ⟨%K, #HI⟩
  ihave Htk := (toks_around (F := F)) $$ Htok
  have hin (c : Dev nD) : iprop(records m K ∗ linear c) ⊢ (G' m c : sProp 𝕄) := by
    unfold G'; iintro H; iexists K; iexact H
  iapply (BI.bigSep_with_persistent (R := records m K) fun c _ => hin c)
  isplitr
  · unfold records; isplitl; · iexact HI
    iexact HR
  · iapply (Entails.of_eq (bigSep_sep' Finset.univ (fun c : Dev nD => bigSep Finset.univ fun k : Option Cl => (atPos ER (cell c k) 0 ∅ 0 : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem tally_cell (c c' : Dev nD) (k k' : Option Cl) (n : ℕ) :
    (tallyAt (cell c k) () n : CellTallies nD τ sig Unit) (cell c' k') () = if c' = c ∧ k' = k then n else 0 := by
  rw [tallyAt_apply]
  by_cases h : c' = c ∧ k' = k
  · obtain ⟨rfl, rfl⟩ := h; rw [if_pos ⟨rfl, rfl⟩, if_pos ⟨rfl, rfl⟩]
  · rw [if_neg h, if_neg]
    rintro ⟨h1, -⟩
    first | exact h ⟨(cell_inj h1).1, (cell_inj h1).2⟩ | exact h ⟨(cell_inj h1).1.symm, (cell_inj h1).2.symm⟩

theorem nxt_iff (d c : Dev nD) : Iff (c = nxt d) (d = prv c) :=
  ⟨fun h => by rw [h, prv_nxt], fun h => by rw [h, nxt_prv]⟩
theorem prv_iff (d c : Dev nD) : Iff (c = prv d) (d = nxt c) :=
  ⟨fun h => by rw [h, nxt_prv], fun h => by rw [h, prv_nxt]⟩

theorem owe_bar (d c : Dev nD) (l : List (Fin 7)) : owe d l (cell c none) () = 0 := by
  induction l with
  | nil => rfl
  | cons j l ih =>
    unfold owe
    rw [Pi.add_apply, Finsupp.add_apply, Pi.add_apply, Finsupp.add_apply, ih, tally_cell, tally_cell, if_neg (fun h => by cases h.2), if_neg (fun h => by cases h.2)]

theorem owe_recv (d c : Dev nD) (a : Bool) (h : Fin 7) (l : List (Fin 7)) (hl : l.Nodup) :
    owe d l (cell c (some (true, a, h))) () = if d = prv c ∧ h ∈ l then N else 0 := by
  induction l with
  | nil => exact (if_neg (fun h' => List.not_mem_nil h'.2)).symm
  | cons j l ih =>
    obtain ⟨hj, hl⟩ := List.nodup_cons.mp hl
    unfold owe
    rw [Pi.add_apply, Finsupp.add_apply, Pi.add_apply, Finsupp.add_apply, ih hl, tally_cell, tally_cell]
    by_cases hd : d = prv c
    · have hc := (nxt_iff d c).mpr hd
      by_cases hh : h = j
      · subst hh
        rcases a <;> simp [hd.symm, hc.symm, hj]
      · simp [hd.symm, hc.symm, hh]
    · have hc : ¬ c = nxt d := fun h' => hd ((nxt_iff d c).mp h')
      simp [hd, hc]

theorem owed_bar (d c : Dev nD) : O₀ d (cell c none) () = (if d = prv c then 1 else 0) + (if d = nxt c then 1 else 0) := by
  unfold O₀ O₁
  rw [Pi.add_apply, Finsupp.add_apply, Pi.add_apply, Finsupp.add_apply, owe_bar, tally_cell, tally_cell]
  rw [Nat.zero_add]
  congr 1
  · exact if_congr ((and_iff_left rfl).trans (nxt_iff d c)) rfl rfl
  · exact if_congr ((and_iff_left rfl).trans (prv_iff d c)) rfl rfl

theorem owed_recv (d c : Dev nD) (a : Bool) (h : Fin 7) : O₀ d (cell c (some (true, a, h))) () = if d = prv c then N else 0 := by
  unfold O₀ O₁
  rw [Pi.add_apply, Finsupp.add_apply, Pi.add_apply, Finsupp.add_apply, owe_recv d c a h hops (by decide), tally_cell, tally_cell,
    if_neg (c := c = nxt d ∧ _) (fun h => by cases h.2), if_neg (c := c = prv d ∧ _) (fun h => by cases h.2)]
  simp only [show h ∈ hops by revert h; decide, and_true, Nat.add_zero]

theorem launch_bar (c : Dev nD) :
    tallyOn (cell c none) (launchCredit (Pipeline.owing O₀) 0 (cell c none)) = (tallyAt (cell c none) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]

theorem launch_recv (c : Dev nD) (a : Bool) (h : Fin 7) :
    tallyOn (cell c (some (true, a, h))) (launchCredit (Pipeline.owing O₀) 0 (cell c (some (true, a, h))))
      = (tallyAt (cell c (some (true, a, h))) () N : CellTallies nD τ sig Unit) := by
  unfold tallyAt; refine congrArg _ (Finsupp.ext fun u => ?_); cases u
  rw [Pipeline.launchCredit_owing, Finsupp.single_eq_same, Finset.sum_congr rfl fun d _ => owed_recv d c a h, Finset.sum_ite_eq' Finset.univ (prv c) fun _ => N,
    if_pos (Finset.mem_univ _)]

def crds (c : Dev nD) (h : Fin 7) : sProp 𝕄 :=
  iprop(cred (tallyAt (cell c (some (true, false, h))) () N) ∗ cred (tallyAt (cell c (some (true, true, h))) () N))

/-- The credits dealt at launch. -/
theorem creds (c : Dev nD) :
    (Pipeline.launchCred O₀ c : sProp 𝕄) ⊢ iprop(cred (tallyAt (cell c none) () 2) ∗ bigSep Finset.univ fun h : Fin 7 => crds c h) := by
  let Ψ : Option Cl → sProp 𝕄 := fun k => cred (tallyOn (cell c k) (launchCredit (Pipeline.owing O₀) 0 (cell c k)))
  have h1 : (Pipeline.launchCred O₀ c : sProp 𝕄) ⊢ bigSep (Finset.univ.map ⟨csem, csem_inj⟩) fun sm : SemLoc sig =>
      (cred (tallyOn ((c : Thread nD τ), sm) (launchCredit (Pipeline.owing O₀) 0 ((c : Thread nD τ), sm))) : sProp 𝕄) := by
    unfold Pipeline.launchCred; exact bigSep_subset (Finset.subset_univ _)
  refine h1.trans ?_
  rw [bigSep_map]
  show bigSep Finset.univ Ψ ⊢ _
  rw [bigSep_opt, bigSep_cl]
  have hb : Ψ none = cred (tallyAt (cell c none) () 2) := congrArg cred (launch_bar c)
  have hr (h : Fin 7) : iprop((Ψ (some (false, false, h)) ∗ Ψ (some (true, false, h))) ∗ (Ψ (some (false, true, h)) ∗ Ψ (some (true, true, h)))) ⊢ (crds c h : sProp 𝕄) := by
    rw [show Ψ (some (true, false, h)) = cred (tallyAt (cell c (some (true, false, h))) () N) from congrArg cred (launch_recv c false h),
      show Ψ (some (true, true, h)) = cred (tallyAt (cell c (some (true, true, h))) () N) from congrArg cred (launch_recv c true h)]
    unfold crds
    iintro ⟨⟨-, H1⟩, ⟨-, H2⟩⟩
    isplitl [H1]; · iexact H1
    iexact H2
  rw [hb]
  exact sep_mono_right (bigSep_mono fun h _ => hr h)

/-! ## The launch theorem's side conditions -/

/-- A device's positions, duties and credits, hop by hop. -/
theorem todo_intro (c : Dev nD) :
    iprop((bigSep Finset.univ fun k : Cl => atPos ER (cell c (some k)) 0 ∅ 0)
        ∗ ((T c false false ∗ T (nxt c) true false) ∗ (T c false true ∗ T (nxt c) true true))
        ∗ bigSep Finset.univ fun h : Fin 7 => crds c h)
      ⊢ (bigSep Finset.univ fun h : Fin 7 => iprop(todo c false h ∗ todo c true h) : sProp 𝕄) := by
  rw [bigSep_cl]
  unfold todo crds T
  simp only [bigSep_sep']
  iintro ⟨⟨⟨A1, A2⟩, ⟨A3, A4⟩⟩, ⟨⟨T1, T2⟩, ⟨T3, T4⟩⟩, C1, C2⟩
  isplitl [A1 A2 T1 T2 C1]
  · isplitl [A1 A2]
    · isplitl [A1]; · iexact A1
      iexact A2
    isplitl [T1 T2]
    · isplitl [T1]; · iexact T1
      iexact T2
    iexact C1
  isplitl [A3 A4]
  · isplitl [A3]; · iexact A3
    iexact A4
  isplitl [T3 T4]
  · isplitl [T3]; · iexact T3
    iexact T4
  iexact C2

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((∃ K, start m K c) ∗ emp) := by
  unfold G' linear payToks
  rw [bigSep_opt]
  iintro ⟨-, Hlev, Hcr, -, ⟨%K, HR, ⟨HaB, Ha⟩, HtP, HtN, Ht⟩⟩
  ihave Hc := (creds (F := F) c) $$ Hcr
  icases Hc with ⟨H1, HN⟩
  ihave Htodo := (todo_intro (F := F) c) $$ [Ha Ht HN]
  · isplitl [Ha]; · iexact Ha
    isplitl [Ht]; · iexact Ht
    iexact HN
  imodintro
  isplitl
  · iexists K
    unfold start
    isplitl [HR]; · iexact HR
    isplitl [Hlev]; · iexact Hlev
    isplitl [HaB]; · iexact HaB
    isplitl [HtN]; · iexact HtN
    isplitl [HtP]; · iexact HtP
    isplitl [H1]; · iexact H1
    iexact Htodo
  · iempintro

theorem gath_intro (c : Dev nD) (f : Buf (Elt F) ((c : Thread nD τ).loc cc0_scratch0)) :
    (((c : Thread nD τ).loc cc0_scratch0) ↦{fullShare} f : sProp 𝕄) ⊢ iprop(∃ X, owns (c : Thread nD τ) (gath false) fullShare X) := by
  iintro H; iexists f; iapply (held_intro c cc0_scratch0 f); iexact H
theorem gath_intro' (c : Dev nD) (f : Buf (Elt F) ((c : Thread nD τ).loc cc0_scratch1)) :
    (((c : Thread nD τ).loc cc0_scratch1) ↦{fullShare} f : sProp 𝕄) ⊢ iprop(∃ X, owns (c : Thread nD τ) (gath true) fullShare X) := by
  iintro H; iexists f; iapply (held_intro c cc0_scratch1 f); iexact H
theorem gath_elim (c : Dev nD) : iprop(∃ X, owns (c : Thread nD τ) (gath false) fullShare X)
    ⊢ (iprop(∃ f : Buf (Elt F) ((c : Thread nD τ).loc cc0_scratch0), ((c : Thread nD τ).loc cc0_scratch0) ↦{fullShare} f) : sProp 𝕄) := by
  iintro ⟨%X, H⟩; iexists X; iapply (held_elim c cc0_scratch0 X); iexact H
theorem gath_elim' (c : Dev nD) : iprop(∃ X, owns (c : Thread nD τ) (gath true) fullShare X)
    ⊢ (iprop(∃ f : Buf (Elt F) ((c : Thread nD τ).loc cc0_scratch1), ((c : Thread nD τ).loc cc0_scratch1) ↦{fullShare} f) : sProp 𝕄) := by
  iintro ⟨%X, H⟩; iexists X; iapply (held_elim c cc0_scratch1 X); iexact H

theorem phi0_intro (c : Dev nD) :
    iprop((∃ K, start m K c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩, ⟨%g, Hr'⟩⟩
  isplitl [Hs]; · iexact Hs
  isplitl [Hr]; · iapply (gath_intro c f); iexact Hr
  iapply (gath_intro' c g); iexact Hr'

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq, bigSep_cl]
  unfold Φ₁
  iintro ⟨⟨Hr, Hr'⟩, HzB, Hz⟩
  isplitl [HzB]; · iexact HzB
  isplitl [Hz]; · unfold cells0; iexact Hz
  isplitl [Hr]; · iapply (gath_elim c); iexact Hr
  iapply (gath_elim' c); iexact Hr'

theorem dec_none {s : SemLoc sig} (h : ∀ k, csem k ≠ s) : dec s = none := by
  unfold dec; exact dif_neg fun ⟨k, hk⟩ => h k hk

theorem O₀_pos {c : Dev nD} {g : GSem nD τ sig} {u : Unit} (h : 0 < O₀ c g u) : g.1.2 = .tc ∧ 0 < lvOf (dec g.2) := by
  unfold O₀ O₁ at h
  rcases add_pos_cases h with h | h
  · rcases add_pos_cases h with h | h
    · obtain ⟨a, j, -, rfl⟩ := owe_pos h
      refine ⟨rfl, ?_⟩; rw [dec_csem]; exact Nat.lt_of_lt_of_le Nat.zero_lt_two (Nat.le_add_right 2 _)
    · rw [tally_pos h]; refine ⟨rfl, ?_⟩; rw [dec_csem]; exact Nat.one_pos
  · rw [tally_pos h]; refine ⟨rfl, ?_⟩; rw [dec_csem]; exact Nat.one_pos

theorem waits (c : Dev nD) : (levAts L lv : sProp 𝕄) ⊢ Pipeline.cellsWaits cfgs (dats m) () 0 c :=
  Pipeline.cellsWaits_intro cfgs (dats m) () 0 c fun w s t => by
    have hs : lvOf (dec (.dma (((cfgs 0).win w).sem s))) ≤ 0 := by
      have : ∀ (w : Fin 6) (s : Fin (spec0 w).nbuf) k, csem k ≠ .dma ((spec0 w).sem s) := by decide
      rw [dec_none (this w s)]; exact le_refl 0
    rcases t with ⟨_ | _, ht⟩
    · exact mayWait_of c _ (O₀ c) 0 hs fun g u hg => O₀_pos hg
    · exact mayWait_of c _ 0 0 hs fun g u hg => absurd hg (Nat.lt_irrefl 0)

/-! ## The run -/

abbrev s₀ : MemSt nD τ sig (Elt F) := ⟨m, fun _ => 0, ρ⟩

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters, for any float values: every execution of the eight devices terminates, with each
    device's arrays at the computed contents and every semaphore counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := fun c => iprop(∃ K, start m K c)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Attn

end
-- ==== Proof.Run.lean ====
module

public import proofs.«01_k».proof.Defs
public import proofs.«01_k».proof.Proof.Gen.Kernel
public import proofs.«01_k».proof.Proof.Gen.Pre_finite_KernelIdeal
public import proofs.«01_k».proof.Proof.Launch

@[expose] public section

noncomputable section

/-!
# What a run leaves

The arguments are as they were and the result holds what the body left in its output block.
-/

namespace Cert.Attn

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- A window that is read only keeps its array. -/
theorem final_in (c : Dev nD) (w : Fin 6) (h : (cfg0.win w).isOut = false) :
    finalA m c w = V m c (Pipeline.arrRef spec0 w) := (dats (F := F) m 0 c).arrAt_in w h _

/-- The result array holds what the body left in its output block. -/
theorem final_out (c : Dev nD) : finalA m c (5 : Fin 6) = outAt m c := by
  have hz : (fun a => (win0_5.index (0 : Fin 1)) a * main_v1.ty.shape.size a) = fun _ => 0 :=
    funext fun a => by fin_cases a <;> decide
  have hr := fun f => Memref.read_access_unit_zero (Elt F) main_v1 hz (fun a => by fin_cases a <;> decide) f
  have ho : (win0_5.blk (0 : Fin 1)).view.read (Elt F) (finalA m c (5 : Fin 6)) = outAt m c := by
    unfold finalA
    rw [show cfg0.N = ((0 : Fin 1) : Fin cfg0.N).val + 1 from rfl, (dats m 0 c).arrAt_succ (5 : Fin 6) (0 : Fin 1)]
    rw [show (cfg0.win (5 : Fin 6)).flush (0 : Fin 1) = true from by decide, if_pos rfl]
    exact View.read_write_univ _ _
  exact (hr _).symm.trans ho

/-- The block of `x` the body reads is the argument. -/
theorem xAt_eq (c : Dev nD) : xAt m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) (m ((c : Thread nD τ).loc main_arg0))
/-- The block of `Wq` the body reads is the argument. -/
theorem wqAt_eq (c : Dev nD) : wqAt m c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) (m ((c : Thread nD τ).loc main_arg1))
/-- The chunk of the keys a device starts with is the argument. -/
theorem kAt_eq (c : Dev nD) : chunk m false c = m ((c : Thread nD τ).loc main_arg2) := by
  have hz : (fun a => (win0_2.index (0 : Fin 1)) a * main_arg2.ty.shape.size a) = fun _ => 0 :=
    funext fun a => by fin_cases a <;> decide
  exact Memref.read_access_unit_zero (Elt F) main_arg2 hz (fun a => by fin_cases a <;> decide) (m ((c : Thread nD τ).loc main_arg2))
/-- The chunk of the values a device starts with is the argument. -/
theorem vAt_eq (c : Dev nD) : chunk m true c = m ((c : Thread nD τ).loc main_arg3) := by
  have hz : (fun a => (win0_3.index (0 : Fin 1)) a * main_arg3.ty.shape.size a) = fun _ => 0 :=
    funext fun a => by fin_cases a <;> decide
  exact Memref.read_access_unit_zero (Elt F) main_arg3 hz (fun a => by fin_cases a <;> decide) (m ((c : Thread nD τ).loc main_arg3))
/-- The block of `Wo` the body reads is the argument. -/
theorem woAt_eq (c : Dev nD) : woAt m c = m ((c : Thread nD τ).loc main_arg4) := by
  have hz : (fun a => (win0_4.index (0 : Fin 1)) a * main_arg4.ty.shape.size a) = fun _ => 0 :=
    funext fun a => by fin_cases a <;> decide
  exact Memref.read_access_unit_zero (Elt F) main_arg4 hz (fun a => by fin_cases a <;> decide) (m ((c : Thread nD τ).loc main_arg4))

/-- The kernel runs to its end from any memory, leaves `outAt` in the result on every device, keeps the arguments and
    brings every semaphore back to zero. -/
theorem run_out : θ_run defs (onTc (τ := τ) (main (F := F))) ⟨m, fun _ => 0, ρ⟩ fun r =>
    (∀ c : Dev nD, r.2.mem (c.tc.loc main_v1) = outAt m c ∧ r.2.mem (c.tc.loc main_arg0) = m (c.tc.loc main_arg0)
      ∧ r.2.mem (c.tc.loc main_arg1) = m (c.tc.loc main_arg1) ∧ r.2.mem (c.tc.loc main_arg2) = m (c.tc.loc main_arg2)
      ∧ r.2.mem (c.tc.loc main_arg3) = m (c.tc.loc main_arg3) ∧ r.2.mem (c.tc.loc main_arg4) = m (c.tc.loc main_arg4))
    ∧ r.2.sem = fun _ => 0 :=
  (θ_run _ _ _).mono (fun r h => ⟨fun c => ⟨(h.1 c 5).trans (final_out m c), (h.1 c 0).trans (final_in m c 0 rfl),
    (h.1 c 1).trans (final_in m c 1 rfl), (h.1 c 2).trans (final_in m c 2 rfl), (h.1 c 3).trans (final_in m c 3 rfl),
    (h.1 c 4).trans (final_in m c 4 rfl)⟩, h.2⟩) (run_main m ρ)

/-- The kernel keeps its arguments, over the idealized floats. -/
theorem frame_ideal : Cert.quiescent_KernelIdeal := fun m ρ _ =>
  (θ_run _ _ _).mono (fun r h => ⟨fun c => (h.1 c).2, h.2⟩) (run_out (F := Ideal) m ρ)

/-- The same under the precondition of the value claim. -/
theorem frame_ideal_pre : Cert.quiescent_KernelIdeal_pre_finite_KernelIdeal := fun m ρ _ =>
  (θ_run _ _ _).mono (fun r h => ⟨fun c => (h.1 c).2, h.2⟩) (run_out (F := Ideal) m ρ)

set_option maxRecDepth 100000 in
/-- The kernel and its idealization have one body table, -/
theorem defs₀_eq : Cert.Kernel.defs₀ (F := Bits) = Cert.KernelIdeal.defs₀ (F := Bits) := by
  unfold Cert.Kernel.defs₀ Cert.KernelIdeal.defs₀
  refine congrArg (Defs.onTc (Val := Elt Bits)) (funext fun i => funext fun x => ?_)
  match i, x with
  | 0, (t, s) => rfl

/-- and are one program. -/
theorem defs_eq : Cert.Kernel.defs (F := Bits) = Cert.KernelIdeal.defs (F := Bits) := by
  unfold Cert.Kernel.defs Cert.KernelIdeal.defs
  exact congrArg (Pipeline.defs (Cert.KernelIdeal.pcfgs (F := Bits))) defs₀_eq

/-- The kernel keeps its arguments, over the machine's floats. -/
theorem frame_kernel : Cert.quiescent_Kernel := fun m ρ _ => by
  rw [defs_eq]
  exact (θ_run (Cert.KernelIdeal.defs (F := Bits)) _ _).mono (fun r h => ⟨fun c => (h.1 c).2, h.2⟩) (run_out (F := Bits) m ρ)

end Cert.Attn

end
-- ==== Proof.RefFrame.lean ====
module

public import proofs.«01_k».proof.Defs
public import proofs.«01_k».proof.Proof.Gen.ReferenceIdeal.Run
public import proofs.«01_k».proof.Proof.Gen.Pre_finite_ReferenceIdeal
public import Idealize.ShloMosaic.Lib.Quiescent
public import Idealize.ShloMosaic.Adequacy

@[expose] public section

noncomputable section

/-!
# The reference keeps its arguments
-/

namespace Cert.Attn

open Idealize.ShloMosaic Idealize.SL.Sem

/-- The reference runs to its end and keeps its arguments. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same under the precondition. -/
theorem frame_ref_pre : Cert.quiescent_ReferenceIdeal_pre_finite_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Attn

end
-- ==== Proof.Softmax.lean ====
module

public import Idealize.ShloMosaic.PureOps.Ideal

@[expose] public section

noncomputable section

/-!
# Softmax with and without the maximum subtracted

Over the extended reals: real scores, some kept and the rest at `-∞`. Normalizing the exponentials of the scores less
their maximum, and then weighing, is weighing by the exponentials of the kept scores and then dividing by their sum.
-/

namespace Cert.Attn

open Idealize.ShloMosaic

variable {ι : Type} [Fintype ι]

/-- A sum of real numbers, taken in the extended reals, is the real sum. -/
theorem sum_coe (T : Finset ι) (f : ι → ℝ) : ∑ j ∈ T, ((f j : ℝ) : EReal) = ((∑ j ∈ T, f j : ℝ) : EReal) := by
  classical
  induction T using Finset.induction_on with
  | empty => simp
  | insert a T ha ih => rw [Finset.sum_insert ha, Finset.sum_insert ha, ih, EReal.coe_add]

/-- A nonnegative real factor goes through a sum of extended reals. -/
theorem sum_mul_coe (T : Finset ι) (f : ι → EReal) {c : ℝ} (hc : 0 ≤ c) : ∑ j ∈ T, f j * (c : EReal) = (∑ j ∈ T, f j) * (c : EReal) := by
  classical
  induction T using Finset.induction_on with
  | empty => simp
  | insert a T ha ih =>
    rw [Finset.sum_insert ha, Finset.sum_insert ha, ih,
      EReal.right_distrib_of_nonneg_of_ne_top (EReal.coe_nonneg.mpr hc) (EReal.coe_ne_top c)]

/-- A running maximum from `-∞` that meets a value above `-∞` is one of the values. -/
theorem fold_max_mem (S : ι → EReal) (j₀ : ι) (h : S j₀ ≠ ⊥) : ∃ j, Finset.univ.fold max ⊥ S = S j ∧ S j ≠ ⊥ := by
  have hne : (Finset.univ : Finset ι).Nonempty := ⟨j₀, Finset.mem_univ _⟩
  obtain ⟨j, -, hj⟩ := Finset.exists_mem_eq_sup Finset.univ hne S
  have hj' : Finset.univ.fold max ⊥ S = S j := hj
  refine ⟨j, hj', fun hb => h (le_bot_iff.mp ?_)⟩
  rw [← hb, ← hj]
  exact Finset.le_sup (Finset.mem_univ j₀)

/-- The weight of a kept score is its exponential, of another nothing. -/
def ew (keep : ι → Bool) (s : ι → EReal) (j : ι) : EReal := if keep j then Ideal.exp (s j) else 0

/-- A score that is not kept is `-∞`. -/
def msk (keep : ι → Bool) (s : ι → EReal) (j : ι) : EReal := if keep j then s j else ⊥

/-- The two ways of normalizing agree. -/
theorem softmax_eq (keep : ι → Bool) (j₀ : ι) (h₀ : keep j₀ = true) (s : ι → ℝ) (v : ι → EReal) :
    ∑ j, v j * Ideal.div (Ideal.exp (msk keep (fun j => (s j : EReal)) j - Finset.univ.fold max ⊥ (msk keep fun j => (s j : EReal))))
        (∑ j, Ideal.exp (msk keep (fun j => (s j : EReal)) j - Finset.univ.fold max ⊥ (msk keep fun j => (s j : EReal))))
      = Ideal.div (∑ j, ew keep (fun j => (s j : EReal)) j * v j) (∑ j, ew keep (fun j => (s j : EReal)) j) := by
  obtain ⟨jm, hm, hmb⟩ := fold_max_mem (msk keep fun j => (s j : EReal)) j₀ (by simp [msk, h₀])
  have hkm : keep jm = true := by
    by_contra hk
    exact hmb (by simp [msk, hk])
  rw [hm]
  have hmv : msk keep (fun j => (s j : EReal)) jm = ((s jm : ℝ) : EReal) := by simp [msk, hkm]
  rw [hmv]
  set mx := s jm
  let w : ι → ℝ := fun j => if keep j then Real.exp (s j) else 0
  have hw0 : ∀ j, 0 ≤ w j := fun j => by
    by_cases hk : keep j = true
    · simp only [w, hk, if_true]; exact (Real.exp_pos _).le
    · simp [w, hk]
  have hZ : 0 < ∑ j, w j :=
    Finset.sum_pos' (fun j _ => hw0 j) ⟨j₀, Finset.mem_univ _, by simp only [w, h₀, if_true]; exact Real.exp_pos _⟩
  have he : ∀ j, Ideal.exp (msk keep (fun j => (s j : EReal)) j - (mx : EReal)) = ((w j * Real.exp (-mx) : ℝ) : EReal) := fun j => by
    by_cases hk : keep j = true
    · simp only [msk, w, hk, if_true]
      rw [← EReal.coe_sub, Ideal.exp_coe, sub_eq_add_neg, Real.exp_add]
    · simp only [msk, w, hk, if_false, Bool.false_eq_true, zero_mul, EReal.coe_zero, EReal.bot_sub]
      rfl
  have hew : ∀ j, ew keep (fun j => (s j : EReal)) j = ((w j : ℝ) : EReal) := fun j => by
    by_cases hk : keep j = true
    · simp only [ew, w, hk, if_true, Ideal.exp_coe]
    · simp [ew, w, hk]
  have hE : (∑ j, w j * Real.exp (-mx)) = (∑ j, w j) * Real.exp (-mx) := (Finset.sum_mul _ _ _).symm
  have hEx := Real.exp_pos (-mx)
  simp only [he, hew]
  rw [sum_coe, sum_coe, hE, Ideal.div_coe hZ.ne', ← sum_mul_coe _ _ (one_div_nonneg.mpr hZ.le)]
  refine Finset.sum_congr rfl fun j _ => ?_
  rw [Ideal.div_coe (mul_pos hZ hEx).ne', ← EReal.coe_mul,
    show w j * Real.exp (-mx) * (1 / ((∑ j, w j) * Real.exp (-mx))) = w j * (1 / ∑ j, w j) by field_simp,
    EReal.coe_mul, mul_comm (w j : EReal) (v j), mul_assoc]

end Cert.Attn
-- ==== Proof.RefTerms.lean ====
module

public import proofs.«01_k».proof.Defs
public import proofs.«01_k».proof.Proof.Gen.ReferenceIdeal.Run

@[expose] public section

noncomputable section

/-!
# The reference's result in stages

The value the reference's run states, cut into named stages: the block of a position, the mask, the scores, the row
maximum, the exponentials, the weights, the output.
-/

namespace Cert.Attn.Ref

open Cert.ReferenceIdeal Cert.ReferenceIdeal.Gen
open Idealize.ShloMosaic Idealize.ShloMosaic.TcCoe

/-- The block of each position: its number over 64, rounded down. -/
def blk : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

/-- The query's block, over all pairs of positions. -/
def qb (b : IVec S4096 32) : IVec S4096x4096 32 :=
  broadcastInDim S4096x4096 ![0, 1] bcast_S4096x1_S4096x4096_0_1 (broadcastInDim S4096x1 ![0] bcast_S4096_S4096x1_0 b)

/-- The key's block, as a row. -/
def kbRow (b : IVec S4096 32) : IVec S1x4096 32 := broadcastInDim S1x4096 ![1] bcast_S4096_S1x4096_1 b

/-- The key's block, over all pairs of positions. -/
def kb (b : IVec S4096 32) : IVec S4096x4096 32 :=
  broadcastInDim S4096x4096 ![0, 1] bcast_S1x4096_S4096x4096_0_1 (kbRow b)

/-- The divisor 3, guarded against zero. -/
def three : IVec S_ 32 :=
  select (cmpi .eq (id (constantI S_ 32 3#32)) (constantI S_ 32 0#32)) (constantI S_ 32 1#32) (id (constantI S_ 32 3#32))

/-- The remainder by the divisor, with the divisor's sign. -/
def rem (x : IVec S4096x4096 32) (d : IVec S_ 32) : IVec S4096x4096 32 :=
  select (andi (cmpi .ne (cmpi .slt (Host.remsi x (broadcastInDim S4096x4096 ![] bcast_S_S4096x4096 d)) (broadcastInDim S4096x4096 ![] bcast_S_S4096x4096 (constantI S_ 32 0#32))) (broadcastInDim S4096x4096 ![] bcast_S_S4096x4096 (cmpi .slt d (constantI S_ 32 0#32)))) (cmpi .ne (Host.remsi x (broadcastInDim S4096x4096 ![] bcast_S_S4096x4096 d)) (broadcastInDim S4096x4096 ![] bcast_S_S4096x4096 (constantI S_ 32 0#32)))) (addi (Host.remsi x (broadcastInDim S4096x4096 ![] bcast_S_S4096x4096 d)) (broadcastInDim S4096x4096 ![] bcast_S_S4096x4096 d)) (Host.remsi x (broadcastInDim S4096x4096 ![] bcast_S_S4096x4096 d))

/-- Which pairs of positions attend. -/
def mask (b : IVec S4096 32) : IVec S4096x4096 1 :=
  ori (ori (cmpi .eq (qb b) (kb b)) (broadcastInDim S4096x4096 ![0, 1] bcast_S1x4096_S4096x4096_0_1 (cmpi .eq (kbRow b) (broadcastInDim S1x4096 ![] bcast_S_S1x4096 (constantI S_ 32 0#32))))) (cmpi .eq (rem (addi (qb b) (kb b)) three) (broadcastInDim S4096x4096 ![] bcast_S_S4096x4096 (constantI S_ 32 0#32)))

/-- The projected queries. -/
def proj (A0 : FVec Ideal S2x4096x768 .f32) (A1 : FVec Ideal S768x512 .f32) : FVec Ideal S2x4096x8x64 .f32 :=
  shapeCast S2x4096x8x64 (Host.dotGeneral dot_S2x4096x768_S768x512_S2x4096x512_2_0_01_1_n_n none A0 A1) shapeCasts_S2x4096x512_S2x4096x8x64

/-- The masked scores. -/
def scores (M : IVec S4096x4096 1) (Q : FVec Ideal S2x4096x8x64 .f32) (A2 : FVec Ideal S2x4096x8x64 .f32) :
    FVec Ideal S2x8x4096x4096 .f32 :=
  select (broadcastInDim S2x8x4096x4096 ![0, 1, 2, 3] bcast_S1x1x4096x4096_S2x8x4096x4096_0_1_2_3 (broadcastInDim S1x1x4096x4096 ![2, 3] bcast_S4096x4096_S1x1x4096x4096_2_3 M)) (mulf (Host.dotGeneral dot_S2x4096x8x64_S2x4096x8x64_S2x8x4096x4096_3_3_1_1_02_02 none Q A2) (broadcastInDim S2x8x4096x4096 ![] bcast_S_S2x8x4096x4096 (constant S_ .f32 0x3E000000#32))) (broadcastInDim S2x8x4096x4096 ![] bcast_S_S2x8x4096x4096 (id (constant S_ .f32 0xFF800000#32)))

/-- The maximum of each row of scores. -/
def rowMax (S : FVec Ideal S2x8x4096x4096 .f32) : FVec Ideal S2x8x4096 .f32 :=
  Host.reduce FloatOps.maximumf S (constant S_ .f32 0xFF800000#32) reducesTo_S2x8x4096x4096_S2x8x4096_d3 h_S_

/-- The exponentials of the scores less their row's maximum. -/
def expo (S : FVec Ideal S2x8x4096x4096 .f32) (M : FVec Ideal S2x8x4096 .f32) : FVec Ideal S2x8x4096x4096 .f32 :=
  Host.exp (subf S (broadcastInDim S2x8x4096x4096 ![0, 1, 2, 3] bcast_S2x8x4096x1_S2x8x4096x4096_0_1_2_3 (broadcastInDim S2x8x4096x1 ![0, 1, 2] bcast_S2x8x4096_S2x8x4096x1_0_1_2 M)))

/-- Whether a query attends anywhere. -/
def rowAny (M : IVec S4096x4096 1) : IVec S4096 1 :=
  Host.reduce IntOp.ori M (constantI S_ 1 0#1) reducesTo_S4096x4096_S4096_d1 h_S_

/-- The sum of each row of exponentials. -/
def rowSum (E : FVec Ideal S2x8x4096x4096 .f32) : FVec Ideal S2x8x4096 .f32 :=
  Host.reduceAdd E (constant S_ .f32 0x00000000#32) reducesTo_S2x8x4096x4096_S2x8x4096_d3 h_S_

/-- The attention weights. -/
def weights (R : IVec S4096 1) (E : FVec Ideal S2x8x4096x4096 .f32) (D : FVec Ideal S2x8x4096 .f32) :
    FVec Ideal S2x8x4096x4096 .f32 :=
  select (broadcastInDim S2x8x4096x4096 ![0, 1, 2, 3] bcast_S1x1x4096x1_S2x8x4096x4096_0_1_2_3 (broadcastInDim S1x1x4096x1 ![2] bcast_S4096_S1x1x4096x1_2 R)) (Host.divf E (broadcastInDim S2x8x4096x4096 ![0, 1, 2, 3] bcast_S2x8x4096x1_S2x8x4096x4096_0_1_2_3 (select (broadcastInDim S2x8x4096x1 ![0, 1, 2, 3] bcast_S1x1x4096x1_S2x8x4096x1_0_1_2_3 (broadcastInDim S1x1x4096x1 ![2] bcast_S4096_S1x1x4096x1_2 R)) (broadcastInDim S2x8x4096x1 ![0, 1, 2] bcast_S2x8x4096_S2x8x4096x1_0_1_2 D) (broadcastInDim S2x8x4096x1 ![] bcast_S_S2x8x4096x1 (id (constant S_ .f32 0x3F800000#32)))))) (broadcastInDim S2x8x4096x4096 ![] bcast_S_S2x8x4096x4096 (id (constant S_ .f32 0x00000000#32)))

/-- The attended values. -/
def attend (W : FVec Ideal S2x8x4096x4096 .f32) (A3 : FVec Ideal S2x4096x8x64 .f32) : FVec Ideal S2x8x64x4096 .f32 :=
  Host.dotGeneral dot_S2x4096x8x64_S2x8x4096x4096_S2x8x64x4096_1_3_3_2_02_01 none A3 W

/-- The projected output. -/
def project (C : FVec Ideal S2x8x64x4096 .f32) (A4 : FVec Ideal S512x768 .f32) : FVec Ideal S2x4096x768 .f32 :=
  Host.dotGeneral dot_S2x4096x512_S512x768_S2x4096x768_2_0_01_1_n_n none (shapeCast S2x4096x512 (transpose S2x4096x8x64 [0, 3, 1, 2] C transposes_S2x8x64x4096_S2x4096x8x64_0_3_1_2) shapeCasts_S2x4096x8x64_S2x4096x512) A4

/-- The weights of a masked score array. -/
def softmax (M : IVec S4096x4096 1) (S : FVec Ideal S2x8x4096x4096 .f32) : FVec Ideal S2x8x4096x4096 .f32 :=
  weights (rowAny M) (expo S (rowMax S)) (rowSum (expo S (rowMax S)))

/-- The whole reference. -/
def out (A0 : FVec Ideal S2x4096x768 .f32) (A1 : FVec Ideal S768x512 .f32) (A2 A3 : FVec Ideal S2x4096x8x64 .f32)
    (A4 : FVec Ideal S512x768 .f32) : FVec Ideal S2x4096x768 .f32 :=
  project (attend (softmax (mask blk) (scores (mask blk) (proj A0 A1) A2)) A3) A4

/-- The run's value is the staged one. -/
theorem out_eq (m : (ℓ : Loc nD τ sig) → Buf (Elt Ideal) ℓ) (c : Dev nD) :
    Value.res_main_v44 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v44
  rfl

end Cert.Attn.Ref
-- ==== Proof.Masks.lean ====
module

public import proofs.«01_k».proof.Proof.Run
public import proofs.«01_k».proof.Proof.RefTerms
public import Idealize.ShloMosaic.Lib.Pointwise
public import Idealize.ShloMosaic.Lib.Routing.Words
public import Idealize.ShloMosaic.Lib.Routing.OpsOrder

@[expose] public section

set_option maxRecDepth 16384

noncomputable section

/-!
# The two masks

Both programs keep the same pairs of positions: those of one block, those whose key is in block 0, and those whose
blocks sum to a multiple of 3.
-/

namespace Cert.Attn

open Idealize.ShloMosaic Idealize.ShloMosaic.TcCoe Idealize.ShloMosaic.WordCmp

/-- Whether a query of block `p` attends to a key of block `q`. -/
def keepN (p q : Nat) : Bool := decide (p = q) || decide (q = 0) || decide ((p + q) % 3 = 0)

theorem keepN_self (p : Nat) : keepN p p = true := by simp [keepN]

/-- A select by a bit. -/
theorem select_ofBool {α : Type} (b : Bool) (x y : α) : Scalar.select (BitVec.ofBool b) x y = if b then x else y := by
  cases b <;> rfl

/-- The mask's bit from the words of the two blocks. -/
theorem mask_bits {p q : Nat} (hp : p < 2 ^ 20) (hq : q < 2 ^ 20) :
    IntOp.ori (IntOp.ori (IntOp.cmpi .eq (BitVec.ofNat 32 p) (BitVec.ofNat 32 q)) (IntOp.cmpi .eq (BitVec.ofNat 32 q) 0#32))
      (IntOp.cmpi .eq (BitVec.ofNat 32 ((p + q) % 3)) 0#32) = BitVec.ofBool (keepN p q) := by
  rw [show (0#32 : BitVec 32) = BitVec.ofNat 32 0 from rfl, cmpi_eq_ofNat (w := 32) (by omega) (by omega),
    cmpi_eq_ofNat (w := 32) (by omega) (by omega), cmpi_eq_ofNat (w := 32) (by omega) (by omega), ori_ofBool, ori_ofBool]
  rfl

/-! ## The reference's -/

namespace Ref

open Cert.ReferenceIdeal Cert.ReferenceIdeal.Gen

/-- A position's block. -/
theorem blk_at (i : Fin 4096) : blk (ix1 i) = BitVec.ofNat 32 (i.val / 64) :=
  Routing.pyDiv_ap bcast_S_S4096 (iotaInDim S4096 32 0) (constantI S_ 32 64#32) (ix1 i) (a := i.val) (b := 64) rfl rfl
    (by omega) (by omega) (by omega)

/-- The remainder by 3. -/
theorem rem_at (x : IVec S4096x4096 32) (i j : Fin 4096) {a : Nat} (ha : a < 2 ^ 31) (hx : x (ix2 i j) = BitVec.ofNat 32 a) :
    rem x three (ix2 i j) = BitVec.ofNat 32 (a % 3) :=
  Routing.pyRem_ap bcast_S_S4096x4096 x (constantI S_ 32 3#32) (ix2 i j) hx rfl ha (by omega) (by omega)

/-- The query's block at a pair. -/
theorem qb_at (i j : Fin 4096) : qb blk (ix2 i j) = BitVec.ofNat 32 (i.val / 64) := by
  rw [← blk_at]
  pointwise [qb]

/-- The key's block at a pair. -/
theorem kb_at (i j : Fin 4096) : kb blk (ix2 i j) = BitVec.ofNat 32 (j.val / 64) := by
  rw [← blk_at]
  pointwise [kb, kbRow]

/-- The reference's mask at a pair. -/
theorem mask_at (i j : Fin 4096) : mask blk (ix2 i j) = BitVec.ofBool (keepN (i.val / 64) (j.val / 64)) := by
  have hs : addi (qb blk) (kb blk) (ix2 i j) = BitVec.ofNat 32 (i.val / 64 + j.val / 64) := by
    rw [Routing.addi_ap, qb_at, kb_at, BitVec.ofNat_add_ofNat]
  have hr := rem_at (addi (qb blk) (kb blk)) i j (a := i.val / 64 + j.val / 64) (by omega) hs
  have hk : (broadcastInDim S4096x4096 ![0, 1] bcast_S1x4096_S4096x4096_0_1 (cmpi .eq (kbRow blk) (broadcastInDim S1x4096 ![] bcast_S_S1x4096 (constantI S_ 32 0#32)))) (ix2 i j)
      = IntOp.cmpi .eq (BitVec.ofNat 32 (j.val / 64)) 0#32 := by
    rw [← blk_at]
    pointwise [kbRow]
  have hz : (broadcastInDim S4096x4096 ![] bcast_S_S4096x4096 (constantI S_ 32 0#32)) (ix2 i j) = 0#32 := rfl
  show IntOp.ori (IntOp.ori (IntOp.cmpi .eq (qb blk (ix2 i j)) (kb blk (ix2 i j))) _) (IntOp.cmpi .eq (rem (addi (qb blk) (kb blk)) three (ix2 i j)) _) = _
  rw [hr, hk, hz, qb_at, kb_at]
  exact mask_bits (by omega) (by omega)

/-- Every query attends somewhere. -/
theorem rowAny_at (i : Fin 4096) : rowAny (mask blk) (ix1 i) = 1#1 := by
  have h : rowAny (mask blk) (ix1 i) = Finset.fold IntOp.ori (0#1) (fun x => mask blk (ix2 i x)) Finset.univ := by
    pointwise [rowAny]
  rw [h, Routing.fold_ori]
  exact ⟨i, Finset.mem_univ _, by rw [mask_at, keepN_self]; rfl⟩

end Ref

/-! ## The kernel's -/

open Cert.KernelIdeal Cert.KernelIdeal.Gen

/-- The quotient by 64, rounded down, as the kernel writes it. -/
theorem fdiv_word {a : Nat} (ha : a < 2 ^ 20) :
    Scalar.select
      (IntOp.andi
        (IntOp.cmpi .ne (IntOp.subi (BitVec.setWidth 32 (IntOp.cmpi .sgt (BitVec.ofNat 32 a) 0#32)) (BitVec.setWidth 32 (IntOp.cmpi .slt (BitVec.ofNat 32 a) 0#32)))
          (Scalar.subi (Scalar.extui (Scalar.cmpi .sgt 64#32 0#32)) (Scalar.extui (Scalar.cmpi .slt 64#32 0#32))))
        (IntOp.cmpi .ne (IntOp.remsi .vector (BitVec.ofNat 32 a) 64#32) 0#32))
      (IntOp.subi (IntOp.divsi .vector (BitVec.ofNat 32 a) 64#32) 1#32) (IntOp.divsi .vector (BitVec.ofNat 32 a) 64#32)
    = BitVec.ofNat 32 (a / 64) := by
  rw [show (64#32 : BitVec 32) = BitVec.ofNat 32 64 from rfl, Routing.remsi_word .vector (by omega) (by omega) (by omega),
    Routing.divsi_word .vector (by omega) (by omega) (by omega)]
  rcases Nat.eq_zero_or_pos a with h | h
  · subst h
    decide
  · have h1 : IntOp.cmpi .sgt (BitVec.ofNat 32 a) 0#32 = 1#1 := by
      rw [show (0#32 : BitVec 32) = BitVec.ofNat 32 0 from rfl, cmpi_sgt_ofNat (w := 32) (by omega) (by omega)]
      simp [h]
    have h2 : IntOp.cmpi .slt (BitVec.ofNat 32 a) 0#32 = 0#1 := by
      rw [show (0#32 : BitVec 32) = BitVec.ofNat 32 0 from rfl, cmpi_slt_ofNat (w := 32) (by omega) (by omega)]
      simp
    rw [h1, h2]
    have h3 : IntOp.cmpi .ne (IntOp.subi (BitVec.setWidth 32 (1#1)) (BitVec.setWidth 32 (0#1)))
        (Scalar.subi (Scalar.extui (Scalar.cmpi .sgt (BitVec.ofNat 32 64) 0#32)) (Scalar.extui (Scalar.cmpi .slt (BitVec.ofNat 32 64) 0#32))) = 0#1 := by decide
    rw [h3]
    show Scalar.select (0#1 &&& _) _ _ = _
    rw [BitVec.zero_and]
    rfl

/-- A device's position is its number. -/
theorem posW_eq (d : Dev nD) : posW d = BitVec.ofNat 32 d.val := by revert d; decide

/-- The first block of a device's own chunk, -/
theorem qBase (d : Dev nD) : Scalar.muli (posW d) 8#32 = BitVec.ofNat 32 (d.val * 8) := by revert d; decide

/-- and of the chunk met at a hop. -/
theorem kBase (d : Dev nD) (h : Fin 8) :
    Scalar.muli (Scalar.remsi (Scalar.addi (Scalar.subi (posW d) (BitVec.ofNat 32 h.val)) 8#32) 8#32) 8#32 = BitVec.ofNat 32 ((orig d h).val * 8) := by
  revert d h; decide

/-- The query's block. -/
theorem qBlk_at (d : Dev nD) (i j : Fin 512) : k0_pay38 (posW d) (ix2 i j) = BitVec.ofNat 32 (d.val * 8 + i.val / 64) := by
  have h : k0_pay38 (posW d) (ix2 i j) = IntOp.addi (Scalar.muli (posW d) 8#32) (BitVec.ofNat 32 (i.val / 64)) := by
    rw [← fdiv_word (show i.val < 2 ^ 20 by omega)]
    pointwise [k0_pay38]
  rw [h, qBase]
  exact BitVec.ofNat_add_ofNat _ _

/-- The key's block at a hop. -/
theorem keyBlk_at (d : Dev nD) (h : Fin 8) (i j : Fin 512) : keyBlk d h (ix2 i j) = BitVec.ofNat 32 ((orig d h).val * 8 + j.val / 64) := by
  have e : keyBlk d h (ix2 i j)
      = IntOp.addi (Scalar.muli (Scalar.remsi (Scalar.addi (Scalar.subi (posW d) (BitVec.ofNat 32 h.val)) 8#32) 8#32) 8#32) (BitVec.ofNat 32 (j.val / 64)) := by
    rw [← fdiv_word (show j.val < 2 ^ 20 by omega)]
    pointwise [keyBlk, colBlk, k0_pay39, k0_pay40, k0_pay41]
  rw [e, kBase]
  exact BitVec.ofNat_add_ofNat _ _

/-- The kernel's mask at a pair. -/
theorem maskOf_at (d : Dev nD) (h : Fin 8) (i j : Fin 512) :
    maskOf d h (ix2 i j) = BitVec.ofBool (keepN (d.val * 8 + i.val / 64) ((orig d h).val * 8 + j.val / 64)) := by
  have hd := d.isLt
  have ho := (orig d h).isLt
  change d.val < 8 at hd
  change (orig d h).val < 8 at ho
  show IntOp.ori (IntOp.ori (IntOp.cmpi .eq (k0_pay38 (posW d) (ix2 i j)) (keyBlk d h (ix2 i j))) (IntOp.cmpi .eq (keyBlk d h (ix2 i j)) 0#32))
    (IntOp.cmpi .eq (IntOp.remsi .vector (IntOp.addi (k0_pay38 (posW d) (ix2 i j)) (keyBlk d h (ix2 i j))) 3#32) 0#32) = _
  rw [qBlk_at, keyBlk_at]
  have hs : ∀ a b : Nat, IntOp.addi (BitVec.ofNat 32 a) (BitVec.ofNat 32 b) = BitVec.ofNat 32 (a + b) := fun a b => BitVec.ofNat_add_ofNat a b
  rw [hs, show (3#32 : BitVec 32) = BitVec.ofNat 32 3 from rfl, Routing.remsi_word .vector (by omega) (by omega) (by omega)]
  exact mask_bits (by omega) (by omega)

end Cert.Attn
-- ==== Proof.Spec.lean ====
module

public import proofs.«01_k».proof.Proof.Softmax
public import proofs.«01_k».proof.Proof.Masks

@[expose] public section

set_option maxRecDepth 16384

noncomputable section

/-!
# Block-sparse attention over whole arrays

What both programs compute of the whole arrays, over the extended reals; and that the reference computes it with the
maximum subtracted.
-/

namespace Cert.Attn

open Idealize.ShloMosaic Idealize.ShloMosaic.TcCoe

/-- The whole arrays. -/
abbrev ArrX := Vec Ideal ⟨3, ![2, 4096, 768]⟩ .f32
abbrev ArrQ := Vec Ideal ⟨2, ![768, 512]⟩ .f32
abbrev ArrK := Vec Ideal ⟨4, ![2, 4096, 8, 64]⟩ .f32
abbrev ArrO := Vec Ideal ⟨2, ![512, 768]⟩ .f32

/-- A projected query's entry. -/
def qv (A0 : ArrX) (A1 : ArrQ) (b : Fin 2) (i : Fin 4096) (n : Fin 512) : EReal := ∑ e, A0 (ix3 b i e) * A1 (ix2 e n)

/-- A head's column among the 512. -/
def col (h : Fin 8) (d : Fin 64) : Fin 512 := ⟨h.val * 64 + d.val, by omega⟩

/-- A score as the kernel forms it: the query scaled first. -/
def scoreK (A0 : ArrX) (A1 : ArrQ) (A2 : ArrK) (b : Fin 2) (h : Fin 8) (i j : Fin 4096) : EReal :=
  ∑ d, (qv A0 A1 b i (col h d) * Ideal.ofBits .f32 0x3E000000#32) * A2 (ix4 b j h d)

/-- A score as the reference forms it: the product scaled. -/
def scoreR (A0 : ArrX) (A1 : ArrQ) (A2 : ArrK) (b : Fin 2) (h : Fin 8) (i j : Fin 4096) : EReal :=
  (∑ d, qv A0 A1 b i (col h d) * A2 (ix4 b j h d)) * Ideal.ofBits .f32 0x3E000000#32

/-- Which keys a query keeps. -/
def kept (i j : Fin 4096) : Bool := keepN (i.val / 64) (j.val / 64)

/-- An attended entry as the kernel forms it. -/
def ctxK (A0 : ArrX) (A1 : ArrQ) (A2 A3 : ArrK) (b : Fin 2) (i : Fin 4096) (h : Fin 8) (d : Fin 64) : EReal :=
  Ideal.div (∑ j, ew (kept i) (scoreK A0 A1 A2 b h i) j * A3 (ix4 b j h d)) (∑ j, ew (kept i) (scoreK A0 A1 A2 b h i) j)

/-- The result from the attended entries. -/
def outK (A0 : ArrX) (A1 : ArrQ) (A2 A3 : ArrK) (A4 : ArrO) (b : Fin 2) (i : Fin 4096) (n : Fin 768) : EReal :=
  ∑ x : Fin 512, ctxK A0 A1 A2 A3 b i (hd x) (pl x) * A4 (ix2 x n)

/-! ## Constants -/

/-- The scale is one eighth. -/
theorem eighth : Ideal.ofBits .f32 0x3E000000#32 = ((1 / 8 : ℝ) : EReal) := by
  simp [Ideal.ofBits, Ideal.ieee, -EReal.coe_mul]
  norm_num

/-- The fill is `-∞`. -/
theorem negInf : Ideal.ofBits .f32 0xFF800000#32 = ⊥ := by
  simp [Ideal.ofBits, Ideal.ieee]

/-! ## Finite scores -/

/-- Every entry is a real number. -/
def Finite {ι : Type} (a : ι → EReal) : Prop := ∀ i, ∃ r : ℝ, a i = (r : EReal)

/-- On finite inputs the two scores are one real number. -/
theorem score_real {A0 : ArrX} {A1 : ArrQ} {A2 : ArrK} (h0 : Finite A0) (h1 : Finite A1) (h2 : Finite A2) (b : Fin 2) (h : Fin 8) (i j : Fin 4096) :
    ∃ s : ℝ, scoreK A0 A1 A2 b h i j = (s : EReal) ∧ scoreR A0 A1 A2 b h i j = (s : EReal) := by
  choose x hx using h0
  choose w hw using h1
  choose k hk using h2
  have hq : ∀ n, qv A0 A1 b i n = ((∑ e, x (ix3 b i e) * w (ix2 e n) : ℝ) : EReal) := fun n => by
    unfold qv
    rw [← sum_coe]
    exact Finset.sum_congr rfl fun e _ => by rw [hx, hw, EReal.coe_mul]
  refine ⟨∑ d, ((∑ e, x (ix3 b i e) * w (ix2 e (col h d))) * (1 / 8)) * k (ix4 b j h d), ?_, ?_⟩
  · unfold scoreK
    rw [← sum_coe]
    exact Finset.sum_congr rfl fun d _ => by rw [hq, hk, eighth, EReal.coe_mul, EReal.coe_mul]
  · unfold scoreR
    have : (∑ d, qv A0 A1 b i (col h d) * A2 (ix4 b j h d)) = ((∑ d, (∑ e, x (ix3 b i e) * w (ix2 e (col h d))) * k (ix4 b j h d) : ℝ) : EReal) := by
      rw [← sum_coe]
      exact Finset.sum_congr rfl fun d _ => by rw [hq, hk, EReal.coe_mul]
    rw [this, eighth, ← EReal.coe_mul, Finset.sum_mul]
    exact congrArg _ (Finset.sum_congr rfl fun d _ => by ring)

/-! ## The reference -/

namespace Ref

open Cert.ReferenceIdeal Cert.ReferenceIdeal.Gen

/-- A projected query. -/
theorem proj_at (A0 : ArrX) (A1 : ArrQ) (b : Fin 2) (i : Fin 4096) (h : Fin 8) (d : Fin 64) :
    proj A0 A1 (ix4 b i h d) = qv A0 A1 b i (col h d) := by
  unfold qv col
  pointwise [proj]

/-- A masked score. -/
theorem scores_at (A0 : ArrX) (A1 : ArrQ) (A2 : ArrK) (b : Fin 2) (h : Fin 8) (i j : Fin 4096) :
    scores (mask blk) (proj A0 A1) A2 (ix4 b h i j) = msk (kept i) (scoreR A0 A1 A2 b h i) j := by
  have e : scores (mask blk) (proj A0 A1) A2 (ix4 b h i j)
      = Scalar.select (mask blk (ix2 i j)) ((∑ d, proj A0 A1 (ix4 b i h d) * A2 (ix4 b j h d)) * Ideal.ofBits .f32 0x3E000000#32) (Ideal.ofBits .f32 0xFF800000#32) := by
    generalize proj A0 A1 = Q
    generalize mask blk = M
    pointwise [scores, id_eq]
  rw [e, mask_at, select_ofBool, negInf]
  simp only [proj_at]
  rfl

/-- A row's maximum. -/
theorem rowMax_at (S : FVec Ideal S2x8x4096x4096 .f32) (b : Fin 2) (h : Fin 8) (i : Fin 4096) :
    rowMax S (ix3 b h i) = Finset.univ.fold max ⊥ fun j => S (ix4 b h i j) := by
  rw [← negInf]
  pointwise [rowMax]

/-- An exponential. -/
theorem expo_at (S : FVec Ideal S2x8x4096x4096 .f32) (M : FVec Ideal S2x8x4096 .f32) (b : Fin 2) (h : Fin 8) (i j : Fin 4096) :
    expo S M (ix4 b h i j) = Ideal.exp (S (ix4 b h i j) - M (ix3 b h i)) := by
  pointwise [expo]

/-- A row's sum. -/
theorem rowSum_at (S : FVec Ideal S2x8x4096x4096 .f32) (b : Fin 2) (h : Fin 8) (i : Fin 4096) :
    rowSum S (ix3 b h i) = ∑ j, S (ix4 b h i j) := by
  pointwise [rowSum]

/-- A weight, of a row that attends somewhere. -/
theorem weights_at (R : IVec S4096 1) (E : FVec Ideal S2x8x4096x4096 .f32) (D : FVec Ideal S2x8x4096 .f32) (b : Fin 2) (h : Fin 8) (i j : Fin 4096)
    (hR : R (ix1 i) = 1#1) : weights R E D (ix4 b h i j) = Ideal.div (E (ix4 b h i j)) (D (ix3 b h i)) := by
  have e : weights R E D (ix4 b h i j)
      = Scalar.select (R (ix1 i)) (Ideal.div (E (ix4 b h i j)) (Scalar.select (R (ix1 i)) (D (ix3 b h i)) 1)) 0 := by
    pointwise [weights, id_eq]
  rw [e, hR]
  rfl

/-- An attended entry. -/
theorem attend_at (W : FVec Ideal S2x8x4096x4096 .f32) (A3 : ArrK) (b : Fin 2) (h : Fin 8) (d : Fin 64) (i : Fin 4096) :
    attend W A3 (ix4 b h d i) = ∑ j, A3 (ix4 b j h d) * W (ix4 b h i j) := by
  pointwise [attend]

/-- A projected output. -/
theorem project_at (C : FVec Ideal S2x8x64x4096 .f32) (A4 : ArrO) (b : Fin 2) (i : Fin 4096) (n : Fin 768) :
    project C A4 (ix3 b i n) = ∑ x : Fin 512, C (ix4 b (hd x) (pl x) i) * A4 (ix2 x n) := by
  unfold hd pl
  pointwise [project]

/-- The reference computes the attention. -/
theorem out_at {A0 : ArrX} {A1 : ArrQ} {A2 : ArrK} (h0 : Finite A0) (h1 : Finite A1) (h2 : Finite A2) (A3 : ArrK) (A4 : ArrO)
    (b : Fin 2) (i : Fin 4096) (n : Fin 768) : out A0 A1 A2 A3 A4 (ix3 b i n) = outK A0 A1 A2 A3 A4 b i n := by
  unfold out outK
  rw [project_at]
  refine Finset.sum_congr rfl fun x _ => congrArg (· * _) ?_
  choose s hsK hsR using fun j => score_real h0 h1 h2 b (hd x) i j
  have hK : scoreK A0 A1 A2 b (hd x) i = fun j => (s j : EReal) := funext hsK
  have hR : scoreR A0 A1 A2 b (hd x) i = fun j => (s j : EReal) := funext hsR
  unfold ctxK softmax
  rw [attend_at, hK, ← softmax_eq (kept i) i (keepN_self _) s]
  refine Finset.sum_congr rfl fun j _ => congrArg (_ * ·) ?_
  rw [weights_at _ _ _ _ _ _ _ (rowAny_at i), rowSum_at]
  simp only [expo_at, rowMax_at, scores_at, hR]

end Ref

end Cert.Attn
-- ==== Proof.Value.lean ====
module

public import proofs.«01_k».proof.Proof.Spec

@[expose] public section

set_option maxRecDepth 16384

noncomputable section

/-!
# The kernel computes the attention

Each device's block, read at an index: the eight hops meet each device's chunk once, so the accumulators end as the sums
over all keys.
-/

namespace Cert.Attn

open Cert.KernelIdeal Cert.KernelIdeal.Gen
open Idealize.ShloMosaic Idealize.ShloMosaic.TcCoe

/-- The place in the whole array of row `i` of device `c`'s block. -/
def gpos (c : Dev nD) (i : Fin 512) : Fin 4096 := ⟨c.val * 512 + i.val, by have h : c.val < 8 := c.isLt; omega⟩

/-- A head's column as the kernel cuts it. -/
def colK (o : Fin 8) (d : Fin 64) : Fin 512 := ⟨64 * o.val + d.val, by omega⟩

theorem colK_eq (o : Fin 8) (d : Fin 64) : colK o d = col o d := Fin.ext (by simp only [colK, col]; omega)
theorem hd_colK (o : Fin 8) (d : Fin 64) : hd (colK o d) = o := Fin.ext (by simp only [colK, hd]; omega)
theorem pl_colK (o : Fin 8) (d : Fin 64) : pl (colK o d) = d := Fin.ext (by simp only [colK, pl]; omega)

/-! ## The kernel's functions at an index -/

/-- A scaled query. -/
theorem qOf_at (x : Vec Ideal S1x512x768 .f32) (w : Vec Ideal S768x512 .f32) (i j : Fin 512) :
    qOf x w (ix2 i j) = (∑ e, x (ix3 0 i e) * w (ix2 e j)) * Ideal.ofBits .f32 0x3E000000#32 := by
  pointwise [qOf, k0_pay4]

/-- A weight. -/
theorem wgt_at (M : IVec S512x512 1) (o : Fin 8) (q k : FVec Ideal S512x512 .f32) (i j : Fin 512) :
    wgt M o q k (ix2 i j) = Scalar.select (M (ix2 i j)) (Ideal.exp (∑ d, q (ix2 i (colK o d)) * k (ix2 j (colK o d)))) 0 := by
  unfold colK
  pointwise [wgt, head]

/-- An accumulator after one hop more. -/
theorem accStep_at (M : IVec S512x512 1) (o : Fin 8) (q k v : FVec Ideal S512x512 .f32) (a : FVec Ideal S512x64 .f32) (i : Fin 512) (d : Fin 64) :
    accStep M o q k v a (ix2 i d) = a (ix2 i d) + ∑ j, wgt M o q k (ix2 i j) * v (ix2 j (colK o d)) := by
  unfold colK
  pointwise [accStep, head]

/-- A denominator after one hop more. -/
theorem denStep_at (M : IVec S512x512 1) (o : Fin 8) (q k : FVec Ideal S512x512 .f32) (a : FVec Ideal S512x1 .f32) (i : Fin 512) :
    denStep M o q k a (ix2 i 0) = a (ix2 i 0) + ∑ j, wgt M o q k (ix2 i j) := by
  pointwise [denStep]

/-- A quotient. -/
theorem ctx_at (s : St Ideal) (b : Fin 2) (o : Fin 8) (i : Fin 512) (d : Fin 64) :
    ctx s b o (ix2 i d) = Ideal.div (s.acc b o (ix2 i d)) (s.den b o (ix2 i 0)) := by
  pointwise [ctx]

/-- The result's row. -/
theorem outOf_at (s : St Ideal) (b : Fin 2) (wo : Vec Ideal S512x768 .f32) (i : Fin 512) (n : Fin 768) :
    outOf s b wo (ix3 0 i n) = ∑ x : Fin 512, ctx s b (hd x) (ix2 i (pl x)) * wo (ix2 x n) := by
  pointwise [outOf]
  refine Finset.sum_congr rfl fun x _ => congrArg (· * _) ?_
  have hx := x.isLt
  have key : ∀ (o : Nat) (ho : o < 8) (y : Fin 64), x.val = o * 64 + y.val → ctx s b ⟨o, ho⟩ (ix2 i y) = ctx s b (hd x) (ix2 i (pl x)) :=
    fun o ho y h => by
      rw [show hd x = ⟨o, ho⟩ from Fin.ext (by simp only [hd]; omega), show pl x = y from Fin.ext (by simp only [pl]; omega)]
  split_ifs
  all_goals first
    | exact absurd rfl (by assumption)
    | exact key 0 (by decide) _ (by dsimp only; omega)
    | exact key 1 (by decide) _ (by dsimp only; omega)
    | exact key 2 (by decide) _ (by dsimp only; omega)
    | exact key 3 (by decide) _ (by dsimp only; omega)
    | exact key 4 (by decide) _ (by dsimp only; omega)
    | exact key 5 (by decide) _ (by dsimp only; omega)
    | exact key 6 (by decide) _ (by dsimp only; omega)
    | exact key 7 (by decide) _ (by dsimp only; omega)

/-! ## Sums over the hops -/

/-- A sum over all keys is the sum over the devices' chunks. -/
theorem sum_gpos (f : Fin 4096 → EReal) : ∑ o : Fin 8, ∑ j : Fin 512, f (gpos o j) = ∑ x, f x := by
  rw [← Fintype.sum_prod_type']
  refine Fintype.sum_equiv (finProdFinEquiv (m := 8) (n := 512)) _ _ fun p => congrArg f (Fin.ext ?_)
  simp only [gpos, finProdFinEquiv, Equiv.coe_fn_mk]
  omega

/-- The hops meet each chunk once. -/
theorem orig_bij (c : Dev nD) : Function.Bijective (orig c) := by
  have h : Function.Injective (orig c) := by revert c; decide
  exact ⟨h, Finite.surjective_of_injective (f := (orig c : Fin 8 → Fin 8)) h⟩

/-- A sum over the hops, each of the chunk met there, is a sum over all keys. -/
theorem sum_hops (c : Dev nD) (f : Fin 4096 → EReal) : ∑ h : Fin 8, ∑ j : Fin 512, f (gpos (orig c h) j) = ∑ x, f x := by
  rw [← sum_gpos f]
  exact Fintype.sum_bijective (orig c : Fin 8 → Fin 8) (orig_bij c) _ _ fun _ => rfl

section Chunks

variable (m : (ℓ : Loc nD τ sig) → Buf (Elt Ideal) ℓ) (c : Dev nD)
variable {A0 : ArrX} {A1 : ArrQ} {A2 A3 : ArrK} {A4 : ArrO}

/-- Every device holds its part of the whole arrays. -/
structure Parts (A0 : ArrX) (A1 : ArrQ) (A2 A3 : ArrK) (A4 : ArrO) : Prop where
  x : ∀ c b i e, xAt m c (ix3 b i e) = A0 (ix3 b (gpos c i) e)
  wq : ∀ c, wqAt m c = A1
  k : ∀ c b i h d, chunk m false c (ix4 b i h d) = A2 (ix4 b (gpos c i) h d)
  v : ∀ c b i h d, chunk m true c (ix4 b i h d) = A3 (ix4 b (gpos c i) h d)
  wo : ∀ c, woAt m c = A4

/-- A query of device `c`. -/
theorem qAt_at (hp : Parts m A0 A1 A2 A3 A4) (b : Fin 2) (i n : Fin 512) :
    qAt m c b (ix2 i n) = qv A0 A1 b (gpos c i) n * Ideal.ofBits .f32 0x3E000000#32 := by
  have e : qAt m c b = qOf (rowX (xAt m c) b) (wqAt m c) := by
    unfold qAt
    fin_cases b <;> rfl
  rw [e, qOf_at, hp.wq]
  unfold qv
  refine congrArg (· * _) (Finset.sum_congr rfl fun e _ => congrArg (· * _) ?_)
  exact hp.x c b i e

/-- A row of a chunk. -/
theorem rows_at (X : Chunk Ideal) (b : Fin 2) (i : Fin 512) (o : Fin 8) (d : Fin 64) : rows X b (ix2 i (colK o d)) = X (ix4 b i o d) := by
  have e : rows X b = rowOf X b := by
    unfold rows
    fin_cases b <;> rfl
  rw [e]
  show X (ix4 b i (hd (colK o d)) (pl (colK o d))) = _
  rw [hd_colK, pl_colK]

/-- A weight at a hop. -/
theorem wgt_hop (hp : Parts m A0 A1 A2 A3 A4) (h : Fin 8) (b : Fin 2) (o : Fin 8) (i j : Fin 512) :
    wgt (maskOf c h) o (qAt m c b) (rows (chunk m false (orig c h)) b) (ix2 i j)
      = ew (kept (gpos c i)) (scoreK A0 A1 A2 b o (gpos c i)) (gpos (orig c h) j) := by
  rw [wgt_at, maskOf_at, select_ofBool]
  unfold ew
  have hk : kept (gpos c i) (gpos (orig c h) j) = keepN (c.val * 8 + i.val / 64) ((orig c h).val * 8 + j.val / 64) := by
    unfold kept gpos
    congr 1 <;> (simp only []; omega)
  rw [hk]
  congr 2
  unfold scoreK
  refine Finset.sum_congr rfl fun d _ => ?_
  rw [qAt_at m c hp, rows_at, hp.k, colK_eq]

/-- The final accumulators: sums over all keys. -/
theorem acc_final (hp : Parts m A0 A1 A2 A3 A4) (b : Fin 2) (o : Fin 8) (i : Fin 512) (d : Fin 64) :
    (finalSt m c (qAt m c)).acc b o (ix2 i d)
      = ∑ J, ew (kept (gpos c i)) (scoreK A0 A1 A2 b o (gpos c i)) J * A3 (ix4 b J o d) := by
  have hs : ∀ (h : Fin 8) (s : St Ideal), (stepAt m c (qAt m c) h s).acc b o (ix2 i d) = s.acc b o (ix2 i d)
      + ∑ j, ew (kept (gpos c i)) (scoreK A0 A1 A2 b o (gpos c i)) (gpos (orig c h) j) * A3 (ix4 b (gpos (orig c h) j) o d) := fun h s => by
    show accStep _ _ _ _ _ _ (ix2 i d) = _
    rw [accStep_at]
    refine congrArg (_ + ·) (Finset.sum_congr rfl fun j _ => ?_)
    rw [wgt_hop m c hp, rows_at, hp.v]
  have hz : (St.zero : St Ideal).acc b o (ix2 i d) = 0 := Ideal.ofBits_zero_f32
  rw [← sum_hops c, Fin.sum_univ_eight]
  unfold finalSt
  rw [hs, hs, hs, hs, hs, hs, hs, hs, hz, zero_add]

/-- The final denominators: sums over all keys. -/
theorem den_final (hp : Parts m A0 A1 A2 A3 A4) (b : Fin 2) (o : Fin 8) (i : Fin 512) :
    (finalSt m c (qAt m c)).den b o (ix2 i 0) = ∑ J, ew (kept (gpos c i)) (scoreK A0 A1 A2 b o (gpos c i)) J := by
  have hs : ∀ (h : Fin 8) (s : St Ideal), (stepAt m c (qAt m c) h s).den b o (ix2 i 0) = s.den b o (ix2 i 0)
      + ∑ j, ew (kept (gpos c i)) (scoreK A0 A1 A2 b o (gpos c i)) (gpos (orig c h) j) := fun h s => by
    show denStep _ _ _ _ _ (ix2 i 0) = _
    rw [denStep_at]
    exact congrArg (_ + ·) (Finset.sum_congr rfl fun j _ => wgt_hop m c hp h b o i j)
  have hz : (St.zero : St Ideal).den b o (ix2 i 0) = 0 := Ideal.ofBits_zero_f32
  rw [← sum_hops c, Fin.sum_univ_eight]
  unfold finalSt
  rw [hs, hs, hs, hs, hs, hs, hs, hs, hz, zero_add]

/-- Device `c`'s block of the result. -/
theorem outAt_at (hp : Parts m A0 A1 A2 A3 A4) (b : Fin 2) (i : Fin 512) (n : Fin 768) :
    outAt m c (ix3 b i n) = outK A0 A1 A2 A3 A4 b (gpos c i) n := by
  show outOf (finalSt m c (qAt m c)) b (woAt m c) (ix3 0 i n) = _
  rw [outOf_at, hp.wo]
  unfold outK
  refine Finset.sum_congr rfl fun x _ => congrArg (· * _) ?_
  rw [ctx_at, acc_final m c hp, den_final m c hp]
  rfl

end Chunks

end Cert.Attn
-- ==== Proof.Algebraic.lean ====
module

public import proofs.«01_k».proof.Proof.Value
public import proofs.«01_k».proof.Proof.RefFrame
public import proofs.«01_k».proof.Proof.Gen.Pre_finite_KernelIdeal
public import Idealize.ShloMosaic.Lib.ReduceAll
public import Idealize.ShloMosaic.Lib.Layout
public import Idealize.ShloMosaic.Lib.LayoutAt

@[expose] public section

set_option maxRecDepth 16384

noncomputable section

/-!
# The value claim

From finite queries' inputs and keys, each device's result is its block of the reference's.
-/

namespace Cert.Attn

open Idealize.ShloMosaic Idealize.ShloMosaic.TcCoe Idealize.SL.Sem

/-! ## The precondition -/

/-- The largest float is `⊤`. -/
theorem posInf : Ideal.ofBits .f32 0x7F800000#32 = ⊤ := by
  simp [Ideal.ofBits, Ideal.ieee]

/-- Two bits whose conjunction is set are both set. -/
theorem andi_one {a b : BitVec 1} (h : IntOp.andi a b = 1#1) : a = 1#1 ∧ b = 1#1 := by
  revert a b; decide

/-- An extended real that compares strictly between the infinities is a real number. -/
theorem real_of_bits {x : EReal} (h : IntOp.andi (FloatOps.cmpf (F := Ideal) (φ := .f32) .ogt x (Ideal.ofBits .f32 0xFF800000#32))
    (FloatOps.cmpf (F := Ideal) (φ := .f32) .olt x (Ideal.ofBits .f32 0x7F800000#32)) = 1#1) : ∃ r : ℝ, x = (r : EReal) := by
  obtain ⟨h1, h2⟩ := andi_one h
  rw [negInf] at h1
  rw [posInf] at h2
  have h1' : (⊥ : EReal) < x := by
    by_contra hn
    have : FloatOps.cmpf (F := Ideal) (φ := .f32) .ogt x (⊥ : EReal) = 0#1 := by
      show BitVec.ofBool (decide ((⊥ : EReal) < x)) = 0#1
      rw [decide_eq_false hn]; rfl
    exact absurd (this.symm.trans h1) (by decide)
  have h2' : x < ⊤ := by
    by_contra hn
    have : FloatOps.cmpf (F := Ideal) (φ := .f32) .olt x (⊤ : EReal) = 0#1 := by
      show BitVec.ofBool (decide (x < (⊤ : EReal))) = 0#1
      rw [decide_eq_false hn]; rfl
    exact absurd (this.symm.trans h2) (by decide)
  exact ⟨x.toReal, (EReal.coe_toReal h2'.ne h1'.ne').symm⟩

instance : Subsingleton Cert.Pre_finite_KernelIdeal.S_.Idx := ⟨fun a b => funext fun x => x.elim0⟩

/-- What the precondition says of the first three arguments. -/
theorem pre_finite {a0 a1 a2 a3 a4} (h : Cert.Pre_finite_KernelIdeal.fn (F := Ideal) a0 a1 a2 a3 a4 = fun _ => 1#1) :
    Finite a0 ∧ Finite a1 ∧ Finite a2 := by
  have h' := congrFun h ix0
  dsimp only [Cert.Pre_finite_KernelIdeal.fn, Cert.Pre_finite_KernelIdeal.fn_part1] at h'
  obtain ⟨h01, h2⟩ := andi_one h'
  obtain ⟨h0, h1⟩ := andi_one h01
  exact ⟨fun i => real_of_bits (Host.reduce_andi_all _ _ _ _ _ h0 i), fun i => real_of_bits (Host.reduce_andi_all _ _ _ _ _ h1 i),
    fun i => real_of_bits (Host.reduce_andi_all _ _ _ _ _ h2 i)⟩

/-! ## Blocks -/

/-- A block of an array of rank 3 cut along its second axis, at an index. -/
theorem block3_at (A : ArrX) (c : Fin 8) (b : Fin 2) (i : Fin 512) (e : Fin 768) :
    (Layout.block ⟨3, ![2, 512, 768]⟩ ⟨3, ![2, 4096, 768]⟩ 1 8 c A) (ix3 b i e) = A (ix3 b (gpos c i) e) := by
  rw [Layout.block_apply]
  refine congrArg A (funext fun x => Fin.ext ?_)
  rw [Layout.Tiles.idx_val]
  fin_cases x <;> rfl

/-- The same of rank 4. -/
theorem block4_at (A : ArrK) (c : Fin 8) (b : Fin 2) (i : Fin 512) (h : Fin 8) (d : Fin 64) :
    (Layout.block ⟨4, ![2, 512, 8, 64]⟩ ⟨4, ![2, 4096, 8, 64]⟩ 1 8 c A) (ix4 b i h d) = A (ix4 b (gpos c i) h d) := by
  rw [Layout.block_apply]
  refine congrArg A (funext fun x => Fin.ext ?_)
  rw [Layout.Tiles.idx_val]
  fin_cases x <;> rfl

/-- A place in the whole array is a row of some device's block. -/
theorem gpos_surj (I : Fin 4096) : ∃ (c : Fin 8) (i : Fin 512), gpos c i = I :=
  ⟨⟨I.val / 512, by omega⟩, ⟨I.val % 512, by omega⟩, Fin.ext (by simp only [gpos]; omega)⟩

/-- An array of rank 3 whose blocks are finite is finite, -/
theorem finite3 {A : ArrX} (h : ∀ c : Fin 8, Finite (Layout.block ⟨3, ![2, 512, 768]⟩ ⟨3, ![2, 4096, 768]⟩ 1 8 c A)) : Finite A := fun j => by
  obtain ⟨c, i, hi⟩ := gpos_surj (j 1)
  obtain ⟨r, hr⟩ := h c (ix3 (j 0) i (j 2))
  refine ⟨r, ?_⟩
  rw [block3_at A c (j 0) i (j 2), hi] at hr
  rw [← hr]
  exact congrArg A (funext fun x => by fin_cases x <;> rfl)

/-- and of rank 4. -/
theorem finite4 {A : ArrK} (h : ∀ c : Fin 8, Finite (Layout.block ⟨4, ![2, 512, 8, 64]⟩ ⟨4, ![2, 4096, 8, 64]⟩ 1 8 c A)) : Finite A := fun j => by
  obtain ⟨c, i, hi⟩ := gpos_surj (j 1)
  obtain ⟨r, hr⟩ := h c (ix4 (j 0) i (j 2) (j 3))
  refine ⟨r, ?_⟩
  rw [block4_at A c (j 0) i (j 2) (j 3), hi] at hr
  rw [← hr]
  exact congrArg A (funext fun x => by fin_cases x <;> rfl)

/-! ## The claim -/

section Core

open Cert.KernelIdeal

variable (m : (ℓ : Loc nD τ sig) → Buf (Elt Ideal) ℓ) {A0 : ArrX} {A1 : ArrQ} {A2 A3 : ArrK} {A4 : ArrO}

/-- From finite queries' inputs and keys, what the kernel leaves on each device is its block of what the reference computes. -/
theorem outAt_block
    (h : ∀ c : Dev nD, xAt m c = Layout.block ⟨3, ![2, 512, 768]⟩ ⟨3, ![2, 4096, 768]⟩ 1 8 c A0 ∧ wqAt m c = A1
      ∧ chunk m false c = Layout.block ⟨4, ![2, 512, 8, 64]⟩ ⟨4, ![2, 4096, 8, 64]⟩ 1 8 c A2
      ∧ chunk m true c = Layout.block ⟨4, ![2, 512, 8, 64]⟩ ⟨4, ![2, 4096, 8, 64]⟩ 1 8 c A3 ∧ woAt m c = A4)
    (hf : ∀ c : Dev nD, Finite (xAt m c) ∧ Finite (wqAt m c) ∧ Finite (chunk m false c)) (c : Dev nD) :
    outAt m c = Layout.block ⟨3, ![2, 512, 768]⟩ ⟨3, ![2, 4096, 768]⟩ 1 8 c (Ref.out A0 A1 A2 A3 A4) := by
  have hp : Parts m A0 A1 A2 A3 A4 :=
    { x := fun c b i e => (congrFun (h c).1 _).trans (block3_at _ c b i e)
      wq := fun c => (h c).2.1
      k := fun c b i o d => (congrFun (h c).2.2.1 _).trans (block4_at _ c b i o d)
      v := fun c b i o d => (congrFun (h c).2.2.2.1 _).trans (block4_at _ c b i o d)
      wo := fun c => (h c).2.2.2.2 }
  have h0 : Finite A0 := finite3 fun c => by rw [← (h c).1]; exact (hf c).1
  have h1 : Finite A1 := by rw [← (h 0).2.1]; exact (hf 0).2.1
  have h2 : Finite A2 := finite4 fun c => by rw [← (h c).2.2.1]; exact (hf c).2.2
  funext j
  have hj : j = ix3 (j 0) (j 1) (j 2) := funext fun x => by fin_cases x <;> rfl
  rw [hj]
  refine (outAt_at m c hp (j 0) (j 1) (j 2)).trans (Eq.trans ?_ (block3_at _ c (j 0) (j 1) (j 2)).symm)
  exact (Ref.out_at h0 h1 h2 A3 A4 _ _ _).symm

end Core

/-- From finite queries' inputs and keys, the kernel's result on each device is its block of the reference's result. -/
theorem algebraic : Cert.algebraic_KernelIdeal_ReferenceIdeal_pre_finite_KernelIdeal := fun m g m' g' hpre hargs =>
  ⟨Cert.ReferenceIdeal.Value.res_main_v44 m' 0,
    (θ_run _ _ _).mono (fun r h c => ⟨(h.1 c).1.trans ((outAt_block m
        (fun c => ⟨(xAt_eq m c).trans (hargs c).1, (wqAt_eq m c).trans (hargs c).2.1, (kAt_eq m c).trans (hargs c).2.2.1,
          (vAt_eq m c).trans (hargs c).2.2.2.1, (woAt_eq m c).trans (hargs c).2.2.2.2⟩)
        (fun c => by
          rw [xAt_eq, wqAt_eq, kAt_eq]
          exact pre_finite (hpre c)) c).trans
        (congrArg (fun A => Layout.block ⟨3, ![2, 512, 768]⟩ ⟨3, ![2, 4096, 768]⟩ 1 8 c A) (Ref.out_eq m' 0).symm)), (h.1 c).2⟩)
      (run_out (F := Ideal) m g),
    (θ_run _ _ _).mono (fun r h => h 0) (Cert.ReferenceIdeal.Value.run (F := Ideal) m' g')⟩

end Cert.Attn
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_KernelIdeal
public import proofs.«01_k».proof.Proof.Gen.Pre_finite_ReferenceIdeal
public import proofs.«01_k».proof.Proof.Run
public import proofs.«01_k».proof.Proof.RefFrame
public import proofs.«01_k».proof.Proof.Algebraic

@[expose] public section

namespace Cert.Proof

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  Cert.Attn.frame_kernel, Cert.Attn.frame_ideal, Cert.Attn.frame_ideal_pre, Cert.Attn.frame_ref, Cert.Attn.frame_ref_pre,
  trivial, Cert.Attn.algebraic⟩

end Cert.Proof

end
